-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_winner [hPre_clear_winner : Cert.Pre_clear_winner.Facts] (m : (ℓ : Loc Cert.KernelIdeal.nD Cert.KernelIdeal.τ Cert.KernelIdeal.sig) → Buf (Elt Ideal) ℓ) : Prop :=
  ∀ c : Dev Cert.KernelIdeal.nD,
    (Cert.Pre_clear_winner.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_winner [hPre_clear_winner : Cert.Pre_clear_winner.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_winner.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_clear_winner [hKernelIdeal : Cert.KernelIdeal.Facts] [hPre_clear_winner : Cert.Pre_clear_winner.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_winner m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_clear_winner [hReferenceIdeal : Cert.ReferenceIdeal.Facts] [hPre_clear_winner : Cert.Pre_clear_winner.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_winner m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_clear_winner [hKernelIdeal : Cert.KernelIdeal.Facts] [hReferenceIdeal : Cert.ReferenceIdeal.Facts] [hPre_clear_winner : Cert.Pre_clear_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_winner m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_clear_winner : Cert.Pre_clear_winner.Facts),
    quiescent_Kernel (hKernel := hKernel)
    ∧ quiescent_KernelIdeal (hKernelIdeal := hKernelIdeal)
    ∧ quiescent_KernelIdeal_pre_clear_winner (hKernelIdeal := hKernelIdeal) (hPre_clear_winner := hPre_clear_winner)
    ∧ quiescent_ReferenceIdeal (hReferenceIdeal := hReferenceIdeal)
    ∧ quiescent_ReferenceIdeal_pre_clear_winner (hReferenceIdeal := hReferenceIdeal) (hPre_clear_winner := hPre_clear_winner)
    ∧ preserves_Kernel_KernelIdeal
    ∧ algebraic_KernelIdeal_ReferenceIdeal_pre_clear_winner (hKernelIdeal := hKernelIdeal) (hReferenceIdeal := hReferenceIdeal) (hPre_clear_winner := hPre_clear_winner)
-- ==== Pre_clear_winner.lean ====
abbrev S64x8x100000 : Shape := ⟨3, ![64, 8, 100000]⟩
abbrev S512x100000 : Shape := ⟨2, ![512, 100000]⟩
abbrev S_ : Shape := ⟨0, ![]⟩
abbrev S512 : Shape := ⟨1, ![512]⟩
abbrev S512x1 : Shape := ⟨2, ![512, 1]⟩
abbrev S1 : Shape := ⟨1, ![1]⟩
abbrev S2 : Shape := ⟨1, ![2]⟩
abbrev S1x1 : Shape := ⟨2, ![1, 1]⟩

class Facts : Prop where
  shapeCasts_S64x8x100000_S512x100000 : S64x8x100000.ShapeCasts S512x100000
  reducesTo_S512x100000_S512_d1 : S512x100000.ReducesTo [1] S512
  h_S_ : 0 < S_.numel
  bcast_S512_S512x1_0 : S512.BroadcastsInDim S512x1 (![0] : Fin 1 → Fin S512x1.rank)
  bcast_S512x1_S512x100000_0_1 : S512x1.BroadcastsInDim S512x100000 (![0, 1] : Fin 2 → Fin S512x100000.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S512x100000 : S_.BroadcastsInDim S512x100000 (![] : Fin 0 → Fin S512x100000.rank)
  natLt_32_64 : 32 < 64
  bcast_S1x1_S512x100000_0_1 : S1x1.BroadcastsInDim S512x100000 (![0, 1] : Fin 2 → Fin S512x100000.rank)
  bcast_S_S512x1 : S_.BroadcastsInDim S512x1 (![] : Fin 0 → Fin S512x1.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S512x100000 32) (v169 : IVec S512x100000 32) (v170 : IVec S512x100000 32) : IVec S512x100000 32 × IVec S512x100000 32 :=
  let v171 : IVec S512x100000 32 := addi v163 v170
  let v172 : IVec S512x100000 32 := broadcastInDim S512x100000 ![] bcast_S_S512x100000 arg0
  let v173 : IVec S512x100000 32 := addi v169 v172
  let c_44 : IVec S_ 32 := constantI S_ 32 5#32
  let v174 : IVec S512x100000 32 := broadcastInDim S512x100000 ![] bcast_S_S512x100000 c_44
  let v175 : IVec S512x100000 32 := addi v173 v174
  (v171, v175)

def fn_threefry2x32_part8 {F : FTy → Type} [FloatOps F] (arg0 : IVec S_ 32) (v1 : IVec S_ 32) (v148 : IVec S512x100000 32) (v149 : IVec S512x100000 32) (v151 : IVec S512x100000 32) : IVec S512x100000 32 × IVec S512x100000 32 :=
  let c_39 : IVec S_ 32 := constantI S_ 32 17#32
  let v152 : IVec S512x100000 32 := broadcastInDim S512x100000 ![] bcast_S_S512x100000 c_39
  let v153 : IVec S512x100000 32 := Host.shrui v148 v152
  let v154 : IVec S512x100000 32 := ori v151 v153
  let v155 : IVec S512x100000 32 := xori v149 v154
  let v156 : IVec S512x100000 32 := addi v149 v155
  let c_40 : IVec S_ 32 := constantI S_ 32 26#32
  let v157 : IVec S512x100000 32 := broadcastInDim S512x100000 ![] bcast_S_S512x100000 c_40
  let v158 : IVec S512x100000 32 := Host.shli v155 v157
  let c_41 : IVec S_ 32 := constantI S_ 32 6#32
  let v159 : IVec S512x100000 32 := broadcastInDim S512x100000 ![] bcast_S_S512x100000 c_41
  let v160 : IVec S512x100000 32 := Host.shrui v155 v159
  let v161 : IVec S512x100000 32 := ori v158 v160
  let v162 : IVec S512x100000 32 := xori v156 v161
  let v163 : IVec S512x100000 32 := addi v156 v162
  let c_42 : IVec S_ 32 := constantI S_ 32 6#32
  let v164 : IVec S512x100000 32 := broadcastInDim S512x100000 ![] bcast_S_S512x100000 c_42
  let v165 : IVec S512x100000 32 := Host.shli v162 v164
  let c_43 : IVec S_ 32 := constantI S_ 32 26#32
  let v166 : IVec S512x100000 32 := broadcastInDim S512x100000 ![] bcast_S_S512x100000 c_43
  let v167 : IVec S512x100000 32 := Host.shrui v162 v166
  let v168 : IVec S512x100000 32 := ori v165 v167
  let v169 : IVec S512x100000 32 := xori v163 v168
  let v170 : IVec S512x100000 32 := broadcastInDim S512x100000 ![] bcast_S_S512x100000 v1
  fn_threefry2x32_part9 (F := F) arg0 v163 v169 v170

def fn_threefry2x32_part7 {F : FTy → Type} [FloatOps F] (arg0 : IVec S_ 32) (arg1 : IVec S_ 32) (v1 : IVec S_ 32) (v128 : IVec S512x100000 32) (v129 : IVec S512x100000 32) (v131 : IVec S512x100000 32) (c_34 : IVec S_ 32) : IVec S512x100000 32 × IVec S512x100000 32 :=
  let v132 : IVec S512x100000 32 := broadcastInDim S512x100000 ![] bcast_S_S512x100000 c_34
  let v133 : IVec S512x100000 32 := Host.shrui v128 v132
  let v134 : IVec S512x100000 32 := ori v131 v133
  let v135 : IVec S512x100000 32 := xori v129 v134
  let v136 : IVec S512x100000 32 := broadcastInDim S512x100000 ![] bcast_S_S512x100000 arg1
  let v137 : IVec S512x100000 32 := addi v129 v136
  let v138 : IVec S512x100000 32 := broadcastInDim S512x100000 ![] bcast_S_S512x100000 v1
  let v139 : IVec S512x100000 32 := addi v135 v138
  let c_35 : IVec S_ 32 := constantI S_ 32 4#32
  let v140 : IVec S512x100000 32 := broadcastInDim S512x100000 ![] bcast_S_S512x100000 c_35
  let v141 : IVec S512x100000 32 := addi v139 v140
  let v142 : IVec S512x100000 32 := addi v137 v141
  let c_36 : IVec S_ 32 := constantI S_ 32 13#32
  let v143 : IVec S512x100000 32 := broadcastInDim S512x100000 ![] bcast_S_S512x100000 c_36
  let v144 : IVec S512x100000 32 := Host.shli v141 v143
  let c_37 : IVec S_ 32 := constantI S_ 32 19#32
  let v145 : IVec S512x100000 32 := broadcastInDim S512x100000 ![] bcast_S_S512x100000 c_37
  let v146 : IVec S512x100000 32 := Host.shrui v141 v145
  let v147 : IVec S512x100000 32 := ori v144 v146
  let v148 : IVec S512x100000 32 := xori v142 v147
  let v149 : IVec S512x100000 32 := addi v142 v148
  let c_38 : IVec S_ 32 := constantI S_ 32 15#32
  let v150 : IVec S512x100000 32 := broadcastInDim S512x100000 ![] bcast_S_S512x100000 c_38
  let v151 : IVec S512x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S512x100000 32) (v113 : IVec S512x100000 32) : IVec S512x100000 32 × IVec S512x100000 32 :=
  let v114 : IVec S512x100000 32 := xori v108 v113
  let v115 : IVec S512x100000 32 := addi v108 v114
  let c_29 : IVec S_ 32 := constantI S_ 32 29#32
  let v116 : IVec S512x100000 32 := broadcastInDim S512x100000 ![] bcast_S_S512x100000 c_29
  let v117 : IVec S512x100000 32 := Host.shli v114 v116
  let c_30 : IVec S_ 32 := constantI S_ 32 3#32
  let v118 : IVec S512x100000 32 := broadcastInDim S512x100000 ![] bcast_S_S512x100000 c_30
  let v119 : IVec S512x100000 32 := Host.shrui v114 v118
  let v120 : IVec S512x100000 32 := ori v117 v119
  let v121 : IVec S512x100000 32 := xori v115 v120
  let v122 : IVec S512x100000 32 := addi v115 v121
  let c_31 : IVec S_ 32 := constantI S_ 32 16#32
  let v123 : IVec S512x100000 32 := broadcastInDim S512x100000 ![] bcast_S_S512x100000 c_31
  let v124 : IVec S512x100000 32 := Host.shli v121 v123
  let c_32 : IVec S_ 32 := constantI S_ 32 16#32
  let v125 : IVec S512x100000 32 := broadcastInDim S512x100000 ![] bcast_S_S512x100000 c_32
  let v126 : IVec S512x100000 32 := Host.shrui v121 v125
  let v127 : IVec S512x100000 32 := ori v124 v126
  let v128 : IVec S512x100000 32 := xori v122 v127
  let v129 : IVec S512x100000 32 := addi v122 v128
  let c_33 : IVec S_ 32 := constantI S_ 32 24#32
  let v130 : IVec S512x100000 32 := broadcastInDim S512x100000 ![] bcast_S_S512x100000 c_33
  let v131 : IVec S512x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S512x100000 32) (v94 : IVec S512x100000 32) : IVec S512x100000 32 × IVec S512x100000 32 :=
  let v95 : IVec S512x100000 32 := addi v88 v94
  let c_24 : IVec S_ 32 := constantI S_ 32 6#32
  let v96 : IVec S512x100000 32 := broadcastInDim S512x100000 ![] bcast_S_S512x100000 c_24
  let v97 : IVec S512x100000 32 := Host.shli v94 v96
  let c_25 : IVec S_ 32 := constantI S_ 32 26#32
  let v98 : IVec S512x100000 32 := broadcastInDim S512x100000 ![] bcast_S_S512x100000 c_25
  let v99 : IVec S512x100000 32 := Host.shrui v94 v98
  let v100 : IVec S512x100000 32 := ori v97 v99
  let v101 : IVec S512x100000 32 := xori v95 v100
  let v102 : IVec S512x100000 32 := broadcastInDim S512x100000 ![] bcast_S_S512x100000 arg0
  let v103 : IVec S512x100000 32 := addi v95 v102
  let v104 : IVec S512x100000 32 := broadcastInDim S512x100000 ![] bcast_S_S512x100000 arg1
  let v105 : IVec S512x100000 32 := addi v101 v104
  let c_26 : IVec S_ 32 := constantI S_ 32 3#32
  let v106 : IVec S512x100000 32 := broadcastInDim S512x100000 ![] bcast_S_S512x100000 c_26
  let v107 : IVec S512x100000 32 := addi v105 v106
  let v108 : IVec S512x100000 32 := addi v103 v107
  let c_27 : IVec S_ 32 := constantI S_ 32 17#32
  let v109 : IVec S512x100000 32 := broadcastInDim S512x100000 ![] bcast_S_S512x100000 c_27
  let v110 : IVec S512x100000 32 := Host.shli v107 v109
  let c_28 : IVec S_ 32 := constantI S_ 32 15#32
  let v111 : IVec S512x100000 32 := broadcastInDim S512x100000 ![] bcast_S_S512x100000 c_28
  let v112 : IVec S512x100000 32 := Host.shrui v107 v111
  let v113 : IVec S512x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S512x100000 32) (v74 : IVec S512x100000 32) (v75 : IVec S512x100000 32) : IVec S512x100000 32 × IVec S512x100000 32 :=
  let v76 : IVec S512x100000 32 := Host.shli v73 v75
  let c_19 : IVec S_ 32 := constantI S_ 32 19#32
  let v77 : IVec S512x100000 32 := broadcastInDim S512x100000 ![] bcast_S_S512x100000 c_19
  let v78 : IVec S512x100000 32 := Host.shrui v73 v77
  let v79 : IVec S512x100000 32 := ori v76 v78
  let v80 : IVec S512x100000 32 := xori v74 v79
  let v81 : IVec S512x100000 32 := addi v74 v80
  let c_20 : IVec S_ 32 := constantI S_ 32 15#32
  let v82 : IVec S512x100000 32 := broadcastInDim S512x100000 ![] bcast_S_S512x100000 c_20
  let v83 : IVec S512x100000 32 := Host.shli v80 v82
  let c_21 : IVec S_ 32 := constantI S_ 32 17#32
  let v84 : IVec S512x100000 32 := broadcastInDim S512x100000 ![] bcast_S_S512x100000 c_21
  let v85 : IVec S512x100000 32 := Host.shrui v80 v84
  let v86 : IVec S512x100000 32 := ori v83 v85
  let v87 : IVec S512x100000 32 := xori v81 v86
  let v88 : IVec S512x100000 32 := addi v81 v87
  let c_22 : IVec S_ 32 := constantI S_ 32 26#32
  let v89 : IVec S512x100000 32 := broadcastInDim S512x100000 ![] bcast_S_S512x100000 c_22
  let v90 : IVec S512x100000 32 := Host.shli v87 v89
  let c_23 : IVec S_ 32 := constantI S_ 32 6#32
  let v91 : IVec S512x100000 32 := broadcastInDim S512x100000 ![] bcast_S_S512x100000 c_23
  let v92 : IVec S512x100000 32 := Host.shrui v87 v91
  let v93 : IVec S512x100000 32 := ori v90 v92
  let v94 : IVec S512x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S512x100000 32) (v54 : IVec S512x100000 32) (v56 : IVec S512x100000 32) : IVec S512x100000 32 × IVec S512x100000 32 :=
  let c_14 : IVec S_ 32 := constantI S_ 32 16#32
  let v57 : IVec S512x100000 32 := broadcastInDim S512x100000 ![] bcast_S_S512x100000 c_14
  let v58 : IVec S512x100000 32 := Host.shrui v53 v57
  let v59 : IVec S512x100000 32 := ori v56 v58
  let v60 : IVec S512x100000 32 := xori v54 v59
  let v61 : IVec S512x100000 32 := addi v54 v60
  let c_15 : IVec S_ 32 := constantI S_ 32 24#32
  let v62 : IVec S512x100000 32 := broadcastInDim S512x100000 ![] bcast_S_S512x100000 c_15
  let v63 : IVec S512x100000 32 := Host.shli v60 v62
  let c_16 : IVec S_ 32 := constantI S_ 32 8#32
  let v64 : IVec S512x100000 32 := broadcastInDim S512x100000 ![] bcast_S_S512x100000 c_16
  let v65 : IVec S512x100000 32 := Host.shrui v60 v64
  let v66 : IVec S512x100000 32 := ori v63 v65
  let v67 : IVec S512x100000 32 := xori v61 v66
  let v68 : IVec S512x100000 32 := broadcastInDim S512x100000 ![] bcast_S_S512x100000 v1
  let v69 : IVec S512x100000 32 := addi v61 v68
  let v70 : IVec S512x100000 32 := broadcastInDim S512x100000 ![] bcast_S_S512x100000 arg0
  let v71 : IVec S512x100000 32 := addi v67 v70
  let c_17 : IVec S_ 32 := constantI S_ 32 2#32
  let v72 : IVec S512x100000 32 := broadcastInDim S512x100000 ![] bcast_S_S512x100000 c_17
  let v73 : IVec S512x100000 32 := addi v71 v72
  let v74 : IVec S512x100000 32 := addi v69 v73
  let c_18 : IVec S_ 32 := constantI S_ 32 13#32
  let v75 : IVec S512x100000 32 := broadcastInDim S512x100000 ![] bcast_S_S512x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S512x100000 32) (v37 : IVec S512x100000 32) (c_8 : IVec S_ 32) : IVec S512x100000 32 × IVec S512x100000 32 :=
  let v38 : IVec S512x100000 32 := broadcastInDim S512x100000 ![] bcast_S_S512x100000 c_8
  let v39 : IVec S512x100000 32 := addi v37 v38
  let v40 : IVec S512x100000 32 := addi v35 v39
  let c_9 : IVec S_ 32 := constantI S_ 32 17#32
  let v41 : IVec S512x100000 32 := broadcastInDim S512x100000 ![] bcast_S_S512x100000 c_9
  let v42 : IVec S512x100000 32 := Host.shli v39 v41
  let c_10 : IVec S_ 32 := constantI S_ 32 15#32
  let v43 : IVec S512x100000 32 := broadcastInDim S512x100000 ![] bcast_S_S512x100000 c_10
  let v44 : IVec S512x100000 32 := Host.shrui v39 v43
  let v45 : IVec S512x100000 32 := ori v42 v44
  let v46 : IVec S512x100000 32 := xori v40 v45
  let v47 : IVec S512x100000 32 := addi v40 v46
  let c_11 : IVec S_ 32 := constantI S_ 32 29#32
  let v48 : IVec S512x100000 32 := broadcastInDim S512x100000 ![] bcast_S_S512x100000 c_11
  let v49 : IVec S512x100000 32 := Host.shli v46 v48
  let c_12 : IVec S_ 32 := constantI S_ 32 3#32
  let v50 : IVec S512x100000 32 := broadcastInDim S512x100000 ![] bcast_S_S512x100000 c_12
  let v51 : IVec S512x100000 32 := Host.shrui v46 v50
  let v52 : IVec S512x100000 32 := ori v49 v51
  let v53 : IVec S512x100000 32 := xori v47 v52
  let v54 : IVec S512x100000 32 := addi v47 v53
  let c_13 : IVec S_ 32 := constantI S_ 32 16#32
  let v55 : IVec S512x100000 32 := broadcastInDim S512x100000 ![] bcast_S_S512x100000 c_13
  let v56 : IVec S512x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S512x100000 32) (v18 : IVec S512x100000 32) : IVec S512x100000 32 × IVec S512x100000 32 :=
  let v19 : IVec S512x100000 32 := xori v13 v18
  let v20 : IVec S512x100000 32 := addi v13 v19
  let c_4 : IVec S_ 32 := constantI S_ 32 26#32
  let v21 : IVec S512x100000 32 := broadcastInDim S512x100000 ![] bcast_S_S512x100000 c_4
  let v22 : IVec S512x100000 32 := Host.shli v19 v21
  let c_5 : IVec S_ 32 := constantI S_ 32 6#32
  let v23 : IVec S512x100000 32 := broadcastInDim S512x100000 ![] bcast_S_S512x100000 c_5
  let v24 : IVec S512x100000 32 := Host.shrui v19 v23
  let v25 : IVec S512x100000 32 := ori v22 v24
  let v26 : IVec S512x100000 32 := xori v20 v25
  let v27 : IVec S512x100000 32 := addi v20 v26
  let c_6 : IVec S_ 32 := constantI S_ 32 6#32
  let v28 : IVec S512x100000 32 := broadcastInDim S512x100000 ![] bcast_S_S512x100000 c_6
  let v29 : IVec S512x100000 32 := Host.shli v26 v28
  let c_7 : IVec S_ 32 := constantI S_ 32 26#32
  let v30 : IVec S512x100000 32 := broadcastInDim S512x100000 ![] bcast_S_S512x100000 c_7
  let v31 : IVec S512x100000 32 := Host.shrui v26 v30
  let v32 : IVec S512x100000 32 := ori v29 v31
  let v33 : IVec S512x100000 32 := xori v27 v32
  let v34 : IVec S512x100000 32 := broadcastInDim S512x100000 ![] bcast_S_S512x100000 arg1
  let v35 : IVec S512x100000 32 := addi v27 v34
  let v36 : IVec S512x100000 32 := broadcastInDim S512x100000 ![] bcast_S_S512x100000 v1
  let v37 : IVec S512x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S512x100000 32) (arg3 : IVec S512x100000 32) : IVec S512x100000 32 × IVec S512x100000 32 :=
  let v0 : IVec S_ 32 := xori arg0 arg1
  let c : IVec S_ 32 := constantI S_ 32 466688986#32
  let v1 : IVec S_ 32 := xori v0 c
  let v2 : IVec S512x100000 32 := broadcastInDim S512x100000 ![] bcast_S_S512x100000 arg0
  let v3 : IVec S512x100000 32 := addi arg2 v2
  let v4 : IVec S512x100000 32 := broadcastInDim S512x100000 ![] bcast_S_S512x100000 arg1
  let v5 : IVec S512x100000 32 := addi arg3 v4
  let v6 : IVec S512x100000 32 := addi v3 v5
  let c_0 : IVec S_ 32 := constantI S_ 32 13#32
  let v7 : IVec S512x100000 32 := broadcastInDim S512x100000 ![] bcast_S_S512x100000 c_0
  let v8 : IVec S512x100000 32 := Host.shli v5 v7
  let c_1 : IVec S_ 32 := constantI S_ 32 19#32
  let v9 : IVec S512x100000 32 := broadcastInDim S512x100000 ![] bcast_S_S512x100000 c_1
  let v10 : IVec S512x100000 32 := Host.shrui v5 v9
  let v11 : IVec S512x100000 32 := ori v8 v10
  let v12 : IVec S512x100000 32 := xori v6 v11
  let v13 : IVec S512x100000 32 := addi v6 v12
  let c_2 : IVec S_ 32 := constantI S_ 32 15#32
  let v14 : IVec S512x100000 32 := broadcastInDim S512x100000 ![] bcast_S_S512x100000 c_2
  let v15 : IVec S512x100000 32 := Host.shli v12 v14
  let c_3 : IVec S_ 32 := constantI S_ 32 17#32
  let v16 : IVec S512x100000 32 := broadcastInDim S512x100000 ![] bcast_S_S512x100000 c_3
  let v17 : IVec S512x100000 32 := Host.shrui v12 v16
  let v18 : IVec S512x100000 32 := ori v15 v17
  fn_threefry2x32_part1 (F := F) arg0 arg1 v1 v13 v18

def fn_uniform_part1 {F : FTy → Type} [FloatOps F] (v1 : FVec F S1x1 .f32) (v2 : FVec F S1x1 .f32) (v19 : IVec S512x100000 32) : FVec F S512x100000 .f32 :=
  let c_2 : IVec S_ 32 := constantI S_ 32 9#32
  let v20 : IVec S512x100000 32 := broadcastInDim S512x100000 ![] bcast_S_S512x100000 c_2
  let v21 : IVec S512x100000 32 := Host.shrui v19 v20
  let c_3 : IVec S_ 32 := constantI S_ 32 1065353216#32
  let v22 : IVec S512x100000 32 := broadcastInDim S512x100000 ![] bcast_S_S512x100000 c_3
  let v23 : IVec S512x100000 32 := ori v21 v22
  let v24 : FVec F S512x100000 .f32 := bitcastToFloat .f32 v23
  let cst : FVec F S_ .f32 := constant S_ .f32 0x3F800000#32
  let v25 : FVec F S512x100000 .f32 := broadcastInDim S512x100000 ![] bcast_S_S512x100000 cst
  let v26 : FVec F S512x100000 .f32 := subf v24 v25
  let v27 : FVec F S1x1 .f32 := subf v2 v1
  let v28 : FVec F S512x100000 .f32 := broadcastInDim S512x100000 ![0, 1] bcast_S1x1_S512x100000_0_1 v27
  let v29 : FVec F S512x100000 .f32 := mulf v26 v28
  let v30 : FVec F S512x100000 .f32 := broadcastInDim S512x100000 ![0, 1] bcast_S1x1_S512x100000_0_1 v1
  let v31 : FVec F S512x100000 .f32 := addf v29 v30
  let v32 : FVec F S512x100000 .f32 := broadcastInDim S512x100000 ![0, 1] bcast_S1x1_S512x100000_0_1 v1
  let v33 : FVec F S512x100000 .f32 := maximumf v32 v31
  v33

def fn_uniform {F : FTy → Type} [FloatOps F] (arg0 : IVec S2 32) (arg1 : FVec F S_ .f32) (arg2 : FVec F S_ .f32) : FVec F S512x100000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S512x100000 64 := iotaInDim S512x100000 64 0
  let v8 : IVec S512x100000 64 := iotaInDim S512x100000 64 1
  let c : IVec S_ 64 := constantI S_ 64 100000#64
  let v9 : IVec S512x100000 64 := broadcastInDim S512x100000 ![] bcast_S_S512x100000 c
  let v10 : IVec S512x100000 64 := muli v9 v7
  let c_0 : IVec S_ 64 := constantI S_ 64 1#64
  let v11 : IVec S512x100000 64 := broadcastInDim S512x100000 ![] bcast_S_S512x100000 c_0
  let v12 : IVec S512x100000 64 := muli v11 v8
  let v13 : IVec S512x100000 64 := addi v10 v12
  let c_1 : IVec S_ 64 := constantI S_ 64 32#64
  let v14 : IVec S512x100000 64 := broadcastInDim S512x100000 ![] bcast_S_S512x100000 c_1
  let v15 : IVec S512x100000 64 := Host.shrui v13 v14
  let v16 : IVec S512x100000 32 := (trunci 32 · natLt_32_64) v13
  let v17 : IVec S512x100000 32 := (trunci 32 · natLt_32_64) v15
  let v18_0 : IVec S512x100000 32 := (fn_threefry2x32 (F := F) v4 v6 v17 v16).1
  let v18_1 : IVec S512x100000 32 := (fn_threefry2x32 (F := F) v4 v6 v17 v16).2
  let v19 : IVec S512x100000 32 := xori v18_0 v18_1
  fn_uniform_part1 (F := F) v1 v2 v19

def fn_gumbel {F : FTy → Type} [FloatOps F] (arg0 : IVec S2 32) : FVec F S512x100000 .f32 :=
  let cst : FVec F S_ .f32 := constant S_ .f32 0x3F800000#32
  let cst_0 : FVec F S_ .f32 := constant S_ .f32 0x00800000#32
  let v0 : FVec F S512x100000 .f32 := fn_uniform (F := F) arg0 cst cst_0
  let v1 : FVec F S512x100000 .f32 := Host.log v0
  let v2 : FVec F S512x100000 .f32 := Host.negf v1
  let v3 : FVec F S512x100000 .f32 := Host.log v2
  let v4 : FVec F S512x100000 .f32 := Host.negf v3
  v4

def fn_argmax {F : FTy → Type} [FloatOps F] (arg0 : FVec F S512x100000 .f32) : IVec S512 32 :=
  let v0 : IVec S512x100000 32 := iotaInDim S512x100000 32 1
  let cst : FVec F S_ .f32 := constant S_ .f32 0xFF800000#32
  let c : IVec S_ 32 := constantI S_ 32 0#32
  let v1_0 : FVec F S512 .f32 := (fun x y u v j => (Host.argReduce reducer_argmax_f32_i32 x y u v reducesTo_S512x100000_S512_d1 h_S_ j).1) arg0 v0 cst c
  let v1_1 : IVec S512 32 := (fun x y u v j => (Host.argReduce reducer_argmax_f32_i32 x y u v reducesTo_S512x100000_S512_d1 h_S_ j).2) arg0 v0 cst c
  v1_1

def fn_where {F : FTy → Type} [FloatOps F] (arg0 : IVec S512x100000 1) (arg1 : IVec S512x100000 1) (arg2 : IVec S512x100000 1) : IVec S512x100000 1 :=
  let v0 : IVec S512x100000 1 := select arg0 arg1 arg2
  v0

def fn_part1 {F : FTy → Type} [FloatOps F] (main_v4 : FVec F S512x100000 .f32) (main_v12 : FVec F S512x100000 .f32) (main_v16 : FVec F S512x100000 .f32) (main_v18 : IVec S512x1 32) : IVec S512x100000 1 :=
  let main_cst_3 : FVec F S_ .f32 := constant S_ .f32 0xFF800000#32
  let main_v19 : FVec F S512 .f32 := (fun x v => Host.reduce FloatOps.maximumf x v reducesTo_S512x100000_S512_d1 h_S_) main_v16 main_cst_3
  let main_v20 : FVec F S512x1 .f32 := broadcastInDim S512x1 ![0] bcast_S512_S512x1_0 main_v19
  let main_v21 : IVec S512x100000 32 := iotaInDim S512x100000 32 1
  let main_v22 : IVec S512x100000 32 := broadcastInDim S512x100000 ![0, 1] bcast_S512x1_S512x100000_0_1 main_v18
  let main_v23 : IVec S512x100000 1 := cmpi .eq main_v21 main_v22
  let main_cst_4 : FVec F S_ .f32 := constant S_ .f32 0x2B8CBCCC#32
  let main_v24 : FVec F S512x100000 .f32 := broadcastInDim S512x100000 ![] bcast_S_S512x100000 main_cst_4
  let main_v25 : IVec S512x100000 1 := cmpf .oge main_v4 main_v24
  let main_cst_5 : FVec F S_ .f32 := constant S_ .f32 0xC0800000#32
  let main_v26 : FVec F S512x100000 .f32 := broadcastInDim S512x100000 ![] bcast_S_S512x100000 main_cst_5
  let main_v27 : IVec S512x100000 1 := cmpf .ogt main_v12 main_v26
  let main_v28 : IVec S512x100000 1 := andi main_v25 main_v27
  let main_cst_6 : FVec F S_ .f32 := constant S_ .f32 0x3727C5AC#32
  let main_v29 : FVec F S512x1 .f32 := broadcastInDim S512x1 ![] bcast_S_S512x1 main_cst_6
  let main_v30 : FVec F S512x1 .f32 := subf main_v20 main_v29
  let main_v31 : FVec F S512x100000 .f32 := broadcastInDim S512x100000 ![0, 1] bcast_S512x1_S512x100000_0_1 main_v30
  let main_v32 : IVec S512x100000 1 := cmpf .olt main_v16 main_v31
  let main_v33 : IVec S512x100000 1 := fn_where (F := F) main_v23 main_v28 main_v32
  main_v33

def fn {F : FTy → Type} [FloatOps F] (main_arg0 : FVec F S64x8x100000 .f32) : IVec S512x100000 1 :=
  let main_v0 : FVec F S512x100000 .f32 := shapeCast S512x100000 main_arg0 shapeCasts_S64x8x100000_S512x100000
  let main_cst : FVec F S_ .f32 := constant S_ .f32 0x00000000#32
  let main_v1 : FVec F S512 .f32 := (fun x v => Host.reduceAdd x v reducesTo_S512x100000_S512_d1 h_S_) main_v0 main_cst
  let main_v2 : FVec F S512x1 .f32 := broadcastInDim S512x1 ![0] bcast_S512_S512x1_0 main_v1
  let main_v3 : FVec F S512x100000 .f32 := broadcastInDim S512x100000 ![0, 1] bcast_S512x1_S512x100000_0_1 main_v2
  let main_v4 : FVec F S512x100000 .f32 := Host.divf main_v0 main_v3
  let main_c : IVec S_ 32 := constantI S_ 32 42#32
  let main_c_0 : IVec S_ 32 := constantI S_ 32 32#32
  let main_v5 : IVec S_ 32 := Host.shrui main_c main_c_0
  let main_v6 : IVec S_ 32 := id main_v5
  let main_v7 : IVec S1 32 := broadcastInDim S1 ![] bcast_S_S1 main_v6
  let main_c_1 : IVec S_ 32 := constantI S_ 32 4294967295#32
  let main_v8 : IVec S_ 32 := andi main_c main_c_1
  let main_v9 : IVec S_ 32 := id main_v8
  let main_v10 : IVec S1 32 := broadcastInDim S1 ![] bcast_S_S1 main_v9
  let main_v11 : IVec S2 32 := (fun a b => concatenate S2 0 [⟨S1, a⟩, ⟨S1, b⟩] concatenates_S1_S1_S2_d0) main_v7 main_v10
  let main_v12 : FVec F S512x100000 .f32 := fn_gumbel (F := F) main_v11
  let main_cst_2 : FVec F S_ .f32 := constant S_ .f32 0x0DA24260#32
  let main_v13 : FVec F S512x100000 .f32 := broadcastInDim S512x100000 ![] bcast_S_S512x100000 main_cst_2
  let main_v14 : FVec F S512x100000 .f32 := addf main_v4 main_v13
  let main_v15 : FVec F S512x100000 .f32 := Host.log main_v14
  let main_v16 : FVec F S512x100000 .f32 := addf main_v12 main_v15
  let main_v17 : IVec S512 32 := fn_argmax (F := F) main_v16
  let main_v18 : IVec S512x1 32 := broadcastInDim S512x1 ![0] bcast_S512_S512x1_0 main_v17
  fn_part1 (F := F) main_v4 main_v12 main_v16 main_v18
-- ==== Kernel.lean ====
abbrev S64x8x100000 : Shape := ⟨3, ![64, 8, 100000]⟩
abbrev S512x100000 : Shape := ⟨2, ![512, 100000]⟩
abbrev S512x1 : Shape := ⟨2, ![512, 1]⟩
abbrev S16x100000 : Shape := ⟨2, ![16, 100000]⟩
abbrev S16x1 : Shape := ⟨2, ![16, 1]⟩
abbrev S16 : Shape := ⟨1, ![16]⟩
abbrev S16x512 : Shape := ⟨2, ![16, 512]⟩
abbrev S16x160 : Shape := ⟨2, ![16, 160]⟩
abbrev S64x8 : Shape := ⟨2, ![64, 8]⟩

abbrev nBuf : Space → Nat
  | .hbm => 4
  | .vmem => 4
  | .smem => 0
  | _ => 0

abbrev bufTy : (tb : Table) → Fin (tcTables nBuf tb) → BufTy
  | .hbm, ⟨0, _⟩ => ⟨S64x8x100000, .f32⟩
  | .hbm, ⟨1, _⟩ => ⟨S512x100000, .f32⟩
  | .hbm, ⟨2, _⟩ => ⟨S512x1, .i32⟩
  | .hbm, ⟨3, _⟩ => ⟨S64x8, .i32⟩
  | .local _ .vmem, ⟨0, _⟩ => ⟨S16x100000, .f32⟩
  | .local _ .vmem, ⟨1, _⟩ => ⟨S16x100000, .f32⟩
  | .local _ .vmem, ⟨2, _⟩ => ⟨S16x1, .i32⟩
  | .local _ .vmem, ⟨3, _⟩ => ⟨S16x1, .i32⟩
  | _, _ => ⟨S64x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c13_i32 : BitVec 32 := 13#32
  let v17 : BitVec 32 := Scalar.addi c0_i32 c13_i32
  let c1_i32 : BitVec 32 := 1#32
  ⟨c0_i32, v17, c1_i32⟩
def k0_off1 (k0_t1 : Fin k0_t1_loop.trips) (c0_i32_52 : BitVec 32) : Fin 2 → Nat :=
  let c0_53 : Index := 0#32
  let c0_i32 : BitVec 32 := 0#32
  let c1_i32 : BitVec 32 := 1#32
  let arg3 : BitVec 32 := Scf.iv c0_i32 c1_i32 k0_t1
  let c7680_i32 : BitVec 32 := 7680#32
  let v230 : BitVec 32 := Scalar.muli arg3 c7680_i32
  let v231 : BitVec 32 := Scalar.addi v230 c0_i32_52
  let v232 : Index := Scalar.indexCast v231
  ![0, v232.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S64x8x100000 : Shape := ⟨3, ![64, 8, 100000]⟩
abbrev S512x100000 : Shape := ⟨2, ![512, 100000]⟩
abbrev S_ : Shape := ⟨0, ![]⟩
abbrev S512 : Shape := ⟨1, ![512]⟩
abbrev S512x1 : Shape := ⟨2, ![512, 1]⟩
abbrev S1 : Shape := ⟨1, ![1]⟩
abbrev S2 : Shape := ⟨1, ![2]⟩
abbrev S1x1 : Shape := ⟨2, ![1, 1]⟩
abbrev S64x8 : Shape := ⟨2, ![64, 8]⟩

abbrev nBuf : Space → Nat
  | .hbm => 295
  | .vmem => 0
  | .smem => 0
  | _ => 0

abbrev hbmTy0_0 (i : Nat) : BufTy := match i % 128 with
  | 0 => ⟨S64x8x100000, .f32⟩
  | 1 => ⟨S512x100000, .f32⟩
  | 2 => ⟨S_, .f32⟩
  | 3 => ⟨S512, .f32⟩
  | 4 => ⟨S512x1, .f32⟩
  | 5 => ⟨S512x100000, .f32⟩
  | 6 => ⟨S512x100000, .f32⟩
  | 7 => ⟨S_, .f32⟩
  | 8 => ⟨S512x100000, .f32⟩
  | 9 => ⟨S512x100000, .f32⟩
  | 10 => ⟨S512x100000, .f32⟩
  | 11 => ⟨S_, .i32⟩
  | 12 => ⟨S_, .i32⟩
  | 13 => ⟨S_, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S2, .i32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S512x100000, .i64⟩
  | 31 => ⟨S512x100000, .i64⟩
  | 32 => ⟨S_, .i64⟩
  | 33 => ⟨S512x100000, .i64⟩
  | 34 => ⟨S512x100000, .i64⟩
  | 35 => ⟨S_, .i64⟩
  | 36 => ⟨S512x100000, .i64⟩
  | 37 => ⟨S512x100000, .i64⟩
  | 38 => ⟨S512x100000, .i64⟩
  | 39 => ⟨S_, .i64⟩
  | 40 => ⟨S512x100000, .i64⟩
  | 41 => ⟨S512x100000, .i64⟩
  | 42 => ⟨S512x100000, .i32⟩
  | 43 => ⟨S512x100000, .i32⟩
  | 44 => ⟨S_, .i32⟩
  | 45 => ⟨S_, .i32⟩
  | 46 => ⟨S_, .i32⟩
  | 47 => ⟨S512x100000, .i32⟩
  | 48 => ⟨S512x100000, .i32⟩
  | 49 => ⟨S512x100000, .i32⟩
  | 50 => ⟨S512x100000, .i32⟩
  | 51 => ⟨S512x100000, .i32⟩
  | 52 => ⟨S_, .i32⟩
  | 53 => ⟨S512x100000, .i32⟩
  | 54 => ⟨S512x100000, .i32⟩
  | 55 => ⟨S_, .i32⟩
  | 56 => ⟨S512x100000, .i32⟩
  | 57 => ⟨S512x100000, .i32⟩
  | 58 => ⟨S512x100000, .i32⟩
  | 59 => ⟨S512x100000, .i32⟩
  | 60 => ⟨S512x100000, .i32⟩
  | 61 => ⟨S_, .i32⟩
  | 62 => ⟨S512x100000, .i32⟩
  | 63 => ⟨S512x100000, .i32⟩
  | 64 => ⟨S_, .i32⟩
  | 65 => ⟨S512x100000, .i32⟩
  | 66 => ⟨S512x100000, .i32⟩
  | 67 => ⟨S512x100000, .i32⟩
  | 68 => ⟨S512x100000, .i32⟩
  | 69 => ⟨S512x100000, .i32⟩
  | 70 => ⟨S_, .i32⟩
  | 71 => ⟨S512x100000, .i32⟩
  | 72 => ⟨S512x100000, .i32⟩
  | 73 => ⟨S_, .i32⟩
  | 74 => ⟨S512x100000, .i32⟩
  | 75 => ⟨S512x100000, .i32⟩
  | 76 => ⟨S512x100000, .i32⟩
  | 77 => ⟨S512x100000, .i32⟩
  | 78 => ⟨S512x100000, .i32⟩
  | 79 => ⟨S_, .i32⟩
  | 80 => ⟨S512x100000, .i32⟩
  | 81 => ⟨S512x100000, .i32⟩
  | 82 => ⟨S_, .i32⟩
  | 83 => ⟨S512x100000, .i32⟩
  | 84 => ⟨S512x100000, .i32⟩
  | 85 => ⟨S512x100000, .i32⟩
  | 86 => ⟨S512x100000, .i32⟩
  | 87 => ⟨S512x100000, .i32⟩
  | 88 => ⟨S512x100000, .i32⟩
  | 89 => ⟨S512x100000, .i32⟩
  | 90 => ⟨S512x100000, .i32⟩
  | 91 => ⟨S_, .i32⟩
  | 92 => ⟨S512x100000, .i32⟩
  | 93 => ⟨S512x100000, .i32⟩
  | 94 => ⟨S512x100000, .i32⟩
  | 95 => ⟨S_, .i32⟩
  | 96 => ⟨S512x100000, .i32⟩
  | 97 => ⟨S512x100000, .i32⟩
  | 98 => ⟨S_, .i32⟩
  | 99 => ⟨S512x100000, .i32⟩
  | 100 => ⟨S512x100000, .i32⟩
  | 101 => ⟨S512x100000, .i32⟩
  | 102 => ⟨S512x100000, .i32⟩
  | 103 => ⟨S512x100000, .i32⟩
  | 104 => ⟨S_, .i32⟩
  | 105 => ⟨S512x100000, .i32⟩
  | 106 => ⟨S512x100000, .i32⟩
  | 107 => ⟨S_, .i32⟩
  | 108 => ⟨S512x100000, .i32⟩
  | 109 => ⟨S512x100000, .i32⟩
  | 110 => ⟨S512x100000, .i32⟩
  | 111 => ⟨S512x100000, .i32⟩
  | 112 => ⟨S512x100000, .i32⟩
  | 113 => ⟨S_, .i32⟩
  | 114 => ⟨S512x100000, .i32⟩
  | 115 => ⟨S512x100000, .i32⟩
  | 116 => ⟨S_, .i32⟩
  | 117 => ⟨S512x100000, .i32⟩
  | 118 => ⟨S512x100000, .i32⟩
  | 119 => ⟨S512x100000, .i32⟩
  | 120 => ⟨S512x100000, .i32⟩
  | 121 => ⟨S512x100000, .i32⟩
  | 122 => ⟨S_, .i32⟩
  | 123 => ⟨S512x100000, .i32⟩
  | 124 => ⟨S512x100000, .i32⟩
  | 125 => ⟨S_, .i32⟩
  | 126 => ⟨S512x100000, .i32⟩
  | 127 => ⟨S512x100000, .i32⟩
  | _ => ⟨S64x8x100000, .f32⟩

abbrev hbmTy0_1 (i : Nat) : BufTy := match i % 128 with
  | 0 => ⟨S512x100000, .i32⟩
  | 1 => ⟨S512x100000, .i32⟩
  | 2 => ⟨S512x100000, .i32⟩
  | 3 => ⟨S512x100000, .i32⟩
  | 4 => ⟨S512x100000, .i32⟩
  | 5 => ⟨S512x100000, .i32⟩
  | 6 => ⟨S_, .i32⟩
  | 7 => ⟨S512x100000, .i32⟩
  | 8 => ⟨S512x100000, .i32⟩
  | 9 => ⟨S512x100000, .i32⟩
  | 10 => ⟨S_, .i32⟩
  | 11 => ⟨S512x100000, .i32⟩
  | 12 => ⟨S512x100000, .i32⟩
  | 13 => ⟨S_, .i32⟩
  | 14 => ⟨S512x100000, .i32⟩
  | 15 => ⟨S512x100000, .i32⟩
  | 16 => ⟨S512x100000, .i32⟩
  | 17 => ⟨S512x100000, .i32⟩
  | 18 => ⟨S512x100000, .i32⟩
  | 19 => ⟨S_, .i32⟩
  | 20 => ⟨S512x100000, .i32⟩
  | 21 => ⟨S512x100000, .i32⟩
  | 22 => ⟨S_, .i32⟩
  | 23 => ⟨S512x100000, .i32⟩
  | 24 => ⟨S512x100000, .i32⟩
  | 25 => ⟨S512x100000, .i32⟩
  | 26 => ⟨S512x100000, .i32⟩
  | 27 => ⟨S512x100000, .i32⟩
  | 28 => ⟨S_, .i32⟩
  | 29 => ⟨S512x100000, .i32⟩
  | 30 => ⟨S512x100000, .i32⟩
  | 31 => ⟨S_, .i32⟩
  | 32 => ⟨S512x100000, .i32⟩
  | 33 => ⟨S512x100000, .i32⟩
  | 34 => ⟨S512x100000, .i32⟩
  | 35 => ⟨S512x100000, .i32⟩
  | 36 => ⟨S512x100000, .i32⟩
  | 37 => ⟨S_, .i32⟩
  | 38 => ⟨S512x100000, .i32⟩
  | 39 => ⟨S512x100000, .i32⟩
  | 40 => ⟨S_, .i32⟩
  | 41 => ⟨S512x100000, .i32⟩
  | 42 => ⟨S512x100000, .i32⟩
  | 43 => ⟨S512x100000, .i32⟩
  | 44 => ⟨S512x100000, .i32⟩
  | 45 => ⟨S512x100000, .i32⟩
  | 46 => ⟨S512x100000, .i32⟩
  | 47 => ⟨S512x100000, .i32⟩
  | 48 => ⟨S512x100000, .i32⟩
  | 49 => ⟨S_, .i32⟩
  | 50 => ⟨S512x100000, .i32⟩
  | 51 => ⟨S512x100000, .i32⟩
  | 52 => ⟨S512x100000, .i32⟩
  | 53 => ⟨S_, .i32⟩
  | 54 => ⟨S512x100000, .i32⟩
  | 55 => ⟨S512x100000, .i32⟩
  | 56 => ⟨S_, .i32⟩
  | 57 => ⟨S512x100000, .i32⟩
  | 58 => ⟨S512x100000, .i32⟩
  | 59 => ⟨S512x100000, .i32⟩
  | 60 => ⟨S512x100000, .i32⟩
  | 61 => ⟨S512x100000, .i32⟩
  | 62 => ⟨S_, .i32⟩
  | 63 => ⟨S512x100000, .i32⟩
  | 64 => ⟨S512x100000, .i32⟩
  | 65 => ⟨S_, .i32⟩
  | 66 => ⟨S512x100000, .i32⟩
  | 67 => ⟨S512x100000, .i32⟩
  | 68 => ⟨S512x100000, .i32⟩
  | 69 => ⟨S512x100000, .i32⟩
  | 70 => ⟨S512x100000, .i32⟩
  | 71 => ⟨S_, .i32⟩
  | 72 => ⟨S512x100000, .i32⟩
  | 73 => ⟨S512x100000, .i32⟩
  | 74 => ⟨S_, .i32⟩
  | 75 => ⟨S512x100000, .i32⟩
  | 76 => ⟨S512x100000, .i32⟩
  | 77 => ⟨S512x100000, .i32⟩
  | 78 => ⟨S512x100000, .i32⟩
  | 79 => ⟨S512x100000, .i32⟩
  | 80 => ⟨S_, .i32⟩
  | 81 => ⟨S512x100000, .i32⟩
  | 82 => ⟨S512x100000, .i32⟩
  | 83 => ⟨S_, .i32⟩
  | 84 => ⟨S512x100000, .i32⟩
  | 85 => ⟨S512x100000, .i32⟩
  | 86 => ⟨S512x100000, .i32⟩
  | 87 => ⟨S512x100000, .i32⟩
  | 88 => ⟨S512x100000, .i32⟩
  | 89 => ⟨S512x100000, .i32⟩
  | 90 => ⟨S512x100000, .i32⟩
  | 91 => ⟨S512x100000, .i32⟩
  | 92 => ⟨S_, .i32⟩
  | 93 => ⟨S512x100000, .i32⟩
  | 94 => ⟨S512x100000, .i32⟩
  | 95 => ⟨S512x100000, .i32⟩
  | 96 => ⟨S_, .i32⟩
  | 97 => ⟨S512x100000, .i32⟩
  | 98 => ⟨S512x100000, .i32⟩
  | 99 => ⟨S_, .i32⟩
  | 100 => ⟨S512x100000, .i32⟩
  | 101 => ⟨S512x100000, .i32⟩
  | 102 => ⟨S512x100000, .i32⟩
  | 103 => ⟨S512x100000, .i32⟩
  | 104 => ⟨S512x100000, .i32⟩
  | 105 => ⟨S_, .i32⟩
  | 106 => ⟨S512x100000, .i32⟩
  | 107 => ⟨S512x100000, .i32⟩
  | 108 => ⟨S_, .i32⟩
  | 109 => ⟨S512x100000, .i32⟩
  | 110 => ⟨S512x100000, .i32⟩
  | 111 => ⟨S512x100000, .i32⟩
  | 112 => ⟨S512x100000, .i32⟩
  | 113 => ⟨S512x100000, .i32⟩
  | 114 => ⟨S_, .i32⟩
  | 115 => ⟨S512x100000, .i32⟩
  | 116 => ⟨S512x100000, .i32⟩
  | 117 => ⟨S_, .i32⟩
  | 118 => ⟨S512x100000, .i32⟩
  | 119 => ⟨S512x100000, .i32⟩
  | 120 => ⟨S512x100000, .i32⟩
  | 121 => ⟨S512x100000, .i32⟩
  | 122 => ⟨S512x100000, .i32⟩
  | 123 => ⟨S_, .i32⟩
  | 124 => ⟨S512x100000, .i32⟩
  | 125 => ⟨S512x100000, .i32⟩
  | 126 => ⟨S_, .i32⟩
  | 127 => ⟨S512x100000, .i32⟩
  | _ => ⟨S64x8x100000, .f32⟩

abbrev hbmTy0_2 (i : Nat) : BufTy := match i % 128 with
  | 0 => ⟨S512x100000, .i32⟩
  | 1 => ⟨S512x100000, .i32⟩
  | 2 => ⟨S512x100000, .i32⟩
  | 3 => ⟨S512x100000, .i32⟩
  | 4 => ⟨S512x100000, .i32⟩
  | 5 => ⟨S512x100000, .i32⟩
  | 6 => ⟨S512x100000, .i32⟩
  | 7 => ⟨S_, .i32⟩
  | 8 => ⟨S512x100000, .i32⟩
  | 9 => ⟨S512x100000, .i32⟩
  | 10 => ⟨S512x100000, .i32⟩
  | 11 => ⟨S_, .i32⟩
  | 12 => ⟨S512x100000, .i32⟩
  | 13 => ⟨S512x100000, .i32⟩
  | 14 => ⟨S_, .i32⟩
  | 15 => ⟨S512x100000, .i32⟩
  | 16 => ⟨S512x100000, .i32⟩
  | 17 => ⟨S512x100000, .f32⟩
  | 18 => ⟨S_, .f32⟩
  | 19 => ⟨S512x100000, .f32⟩
  | 20 => ⟨S512x100000, .f32⟩
  | 21 => ⟨S1x1, .f32⟩
  | 22 => ⟨S512x100000, .f32⟩
  | 23 => ⟨S512x100000, .f32⟩
  | 24 => ⟨S512x100000, .f32⟩
  | 25 => ⟨S512x100000, .f32⟩
  | 26 => ⟨S512x100000, .f32⟩
  | 27 => ⟨S512x100000, .f32⟩
  | 28 => ⟨S512x100000, .f32⟩
  | 29 => ⟨S512x100000, .f32⟩
  | 30 => ⟨S512x100000, .f32⟩
  | 31 => ⟨S512x100000, .f32⟩
  | 32 => ⟨S512x100000, .f32⟩
  | 33 => ⟨S512x100000, .i32⟩
  | 34 => ⟨S_, .f32⟩
  | 35 => ⟨S_, .i32⟩
  | 36 => ⟨S512, .f32⟩
  | 37 => ⟨S512, .i32⟩
  | 38 => ⟨S64x8, .i32⟩
  | _ => ⟨S64x8x100000, .f32⟩

abbrev hbmTy (i : Nat) : BufTy := match i / 128 with
  | 0 => hbmTy0_0 i
  | 1 => hbmTy0_1 i
  | 2 => hbmTy0_2 i
  | _ => ⟨S64x8x100000, .f32⟩

abbrev bufTy : (tb : Table) → Fin (tcTables nBuf tb) → BufTy
  | .hbm, ⟨i, _⟩ => hbmTy i
  | _, _ => ⟨S64x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_cst_0 : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_c : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_c_0 : Ref sig .tc := ⟨.hbm, 35, rfl⟩
abbrev main_call0_call0_v11 : Ref sig .tc := ⟨.hbm, 36, rfl⟩
abbrev main_call0_call0_v12 : Ref sig .tc := ⟨.hbm, 37, rfl⟩
abbrev main_call0_call0_v13 : Ref sig .tc := ⟨.hbm, 38, rfl⟩
abbrev main_call0_call0_c_1 : Ref sig .tc := ⟨.hbm, 39, rfl⟩
abbrev main_call0_call0_v14 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_v17 : Ref sig .tc := ⟨.hbm, 43, rfl⟩
abbrev main_call0_call0_call0_v0 : Ref sig .tc := ⟨.hbm, 44, rfl⟩
abbrev main_call0_call0_call0_c : Ref sig .tc := ⟨.hbm, 45, rfl⟩
abbrev main_call0_call0_call0_v1 : Ref sig .tc := ⟨.hbm, 46, rfl⟩
abbrev main_call0_call0_call0_v2 : Ref sig .tc := ⟨.hbm, 47, rfl⟩
abbrev main_call0_call0_call0_v3 : Ref sig .tc := ⟨.hbm, 48, rfl⟩
abbrev main_call0_call0_call0_v4 : Ref sig .tc := ⟨.hbm, 49, rfl⟩
abbrev main_call0_call0_call0_v5 : Ref sig .tc := ⟨.hbm, 50, rfl⟩
abbrev main_call0_call0_call0_v6 : Ref sig .tc := ⟨.hbm, 51, rfl⟩
abbrev main_call0_call0_call0_c_0 : Ref sig .tc := ⟨.hbm, 52, rfl⟩
abbrev main_call0_call0_call0_v7 : Ref sig .tc := ⟨.hbm, 53, rfl⟩
abbrev main_call0_call0_call0_v8 : Ref sig .tc := ⟨.hbm, 54, rfl⟩
abbrev main_call0_call0_call0_c_1 : Ref sig .tc := ⟨.hbm, 55, rfl⟩
abbrev main_call0_call0_call0_v9 : Ref sig .tc := ⟨.hbm, 56, rfl⟩
abbrev main_call0_call0_call0_v10 : Ref sig .tc := ⟨.hbm, 57, rfl⟩
abbrev main_call0_call0_call0_v11 : Ref sig .tc := ⟨.hbm, 58, rfl⟩
abbrev main_call0_call0_call0_v12 : Ref sig .tc := ⟨.hbm, 59, rfl⟩
abbrev main_call0_call0_call0_v13 : Ref sig .tc := ⟨.hbm, 60, rfl⟩
abbrev main_call0_call0_call0_c_2 : Ref sig .tc := ⟨.hbm, 61, rfl⟩
abbrev main_call0_call0_call0_v14 : Ref sig .tc := ⟨.hbm, 62, rfl⟩
abbrev main_call0_call0_call0_v15 : Ref sig .tc := ⟨.hbm, 63, rfl⟩
abbrev main_call0_call0_call0_c_3 : Ref sig .tc := ⟨.hbm, 64, rfl⟩
abbrev main_call0_call0_call0_v16 : Ref sig .tc := ⟨.hbm, 65, rfl⟩
abbrev main_call0_call0_call0_v17 : Ref sig .tc := ⟨.hbm, 66, rfl⟩
abbrev main_call0_call0_call0_v18 : Ref sig .tc := ⟨.hbm, 67, rfl⟩
abbrev main_call0_call0_call0_v19 : Ref sig .tc := ⟨.hbm, 68, rfl⟩
abbrev main_call0_call0_call0_v20 : Ref sig .tc := ⟨.hbm, 69, rfl⟩
abbrev main_call0_call0_call0_c_4 : Ref sig .tc := ⟨.hbm, 70, rfl⟩
abbrev main_call0_call0_call0_v21 : Ref sig .tc := ⟨.hbm, 71, rfl⟩
abbrev main_call0_call0_call0_v22 : Ref sig .tc := ⟨.hbm, 72, rfl⟩
abbrev main_call0_call0_call0_c_5 : Ref sig .tc := ⟨.hbm, 73, rfl⟩
abbrev main_call0_call0_call0_v23 : Ref sig .tc := ⟨.hbm, 74, rfl⟩
abbrev main_call0_call0_call0_v24 : Ref sig .tc := ⟨.hbm, 75, rfl⟩
abbrev main_call0_call0_call0_v25 : Ref sig .tc := ⟨.hbm, 76, rfl⟩
abbrev main_call0_call0_call0_v26 : Ref sig .tc := ⟨.hbm, 77, rfl⟩
abbrev main_call0_call0_call0_v27 : Ref sig .tc := ⟨.hbm, 78, rfl⟩
abbrev main_call0_call0_call0_c_6 : Ref sig .tc := ⟨.hbm, 79, rfl⟩
abbrev main_call0_call0_call0_v28 : Ref sig .tc := ⟨.hbm, 80, rfl⟩
abbrev main_call0_call0_call0_v29 : Ref sig .tc := ⟨.hbm, 81, rfl⟩
abbrev main_call0_call0_call0_c_7 : Ref sig .tc := ⟨.hbm, 82, rfl⟩
abbrev main_call0_call0_call0_v30 : Ref sig .tc := ⟨.hbm, 83, rfl⟩
abbrev main_call0_call0_call0_v31 : Ref sig .tc := ⟨.hbm, 84, rfl⟩
abbrev main_call0_call0_call0_v32 : Ref sig .tc := ⟨.hbm, 85, rfl⟩
abbrev main_call0_call0_call0_v33 : Ref sig .tc := ⟨.hbm, 86, rfl⟩
abbrev main_call0_call0_call0_v34 : Ref sig .tc := ⟨.hbm, 87, rfl⟩
abbrev main_call0_call0_call0_v35 : Ref sig .tc := ⟨.hbm, 88, rfl⟩
abbrev main_call0_call0_call0_v36 : Ref sig .tc := ⟨.hbm, 89, rfl⟩
abbrev main_call0_call0_call0_v37 : Ref sig .tc := ⟨.hbm, 90, rfl⟩
abbrev main_call0_call0_call0_c_8 : Ref sig .tc := ⟨.hbm, 91, rfl⟩
abbrev main_call0_call0_call0_v38 : Ref sig .tc := ⟨.hbm, 92, rfl⟩
abbrev main_call0_call0_call0_v39 : Ref sig .tc := ⟨.hbm, 93, rfl⟩
abbrev main_call0_call0_call0_v40 : Ref sig .tc := ⟨.hbm, 94, rfl⟩
abbrev main_call0_call0_call0_c_9 : Ref sig .tc := ⟨.hbm, 95, rfl⟩
abbrev main_call0_call0_call0_v41 : Ref sig .tc := ⟨.hbm, 96, rfl⟩
abbrev main_call0_call0_call0_v42 : Ref sig .tc := ⟨.hbm, 97, rfl⟩
abbrev main_call0_call0_call0_c_10 : Ref sig .tc := ⟨.hbm, 98, rfl⟩
abbrev main_call0_call0_call0_v43 : Ref sig .tc := ⟨.hbm, 99, rfl⟩
abbrev main_call0_call0_call0_v44 : Ref sig .tc := ⟨.hbm, 100, rfl⟩
abbrev main_call0_call0_call0_v45 : Ref sig .tc := ⟨.hbm, 101, rfl⟩
abbrev main_call0_call0_call0_v46 : Ref sig .tc := ⟨.hbm, 102, rfl⟩
abbrev main_call0_call0_call0_v47 : Ref sig .tc := ⟨.hbm, 103, rfl⟩
abbrev main_call0_call0_call0_c_11 : Ref sig .tc := ⟨.hbm, 104, rfl⟩
abbrev main_call0_call0_call0_v48 : Ref sig .tc := ⟨.hbm, 105, rfl⟩
abbrev main_call0_call0_call0_v49 : Ref sig .tc := ⟨.hbm, 106, rfl⟩
abbrev main_call0_call0_call0_c_12 : Ref sig .tc := ⟨.hbm, 107, rfl⟩
abbrev main_call0_call0_call0_v50 : Ref sig .tc := ⟨.hbm, 108, rfl⟩
abbrev main_call0_call0_call0_v51 : Ref sig .tc := ⟨.hbm, 109, rfl⟩
abbrev main_call0_call0_call0_v52 : Ref sig .tc := ⟨.hbm, 110, rfl⟩
abbrev main_call0_call0_call0_v53 : Ref sig .tc := ⟨.hbm, 111, rfl⟩
abbrev main_call0_call0_call0_v54 : Ref sig .tc := ⟨.hbm, 112, rfl⟩
abbrev main_call0_call0_call0_c_13 : Ref sig .tc := ⟨.hbm, 113, rfl⟩
abbrev main_call0_call0_call0_v55 : Ref sig .tc := ⟨.hbm, 114, rfl⟩
abbrev main_call0_call0_call0_v56 : Ref sig .tc := ⟨.hbm, 115, rfl⟩
abbrev main_call0_call0_call0_c_14 : Ref sig .tc := ⟨.hbm, 116, rfl⟩
abbrev main_call0_call0_call0_v57 : Ref sig .tc := ⟨.hbm, 117, rfl⟩
abbrev main_call0_call0_call0_v58 : Ref sig .tc := ⟨.hbm, 118, rfl⟩
abbrev main_call0_call0_call0_v59 : Ref sig .tc := ⟨.hbm, 119, rfl⟩
abbrev main_call0_call0_call0_v60 : Ref sig .tc := ⟨.hbm, 120, rfl⟩
abbrev main_call0_call0_call0_v61 : Ref sig .tc := ⟨.hbm, 121, rfl⟩
abbrev main_call0_call0_call0_c_15 : Ref sig .tc := ⟨.hbm, 122, rfl⟩
abbrev main_call0_call0_call0_v62 : Ref sig .tc := ⟨.hbm, 123, rfl⟩
abbrev main_call0_call0_call0_v63 : Ref sig .tc := ⟨.hbm, 124, rfl⟩
abbrev main_call0_call0_call0_c_16 : Ref sig .tc := ⟨.hbm, 125, rfl⟩
abbrev main_call0_call0_call0_v64 : Ref sig .tc := ⟨.hbm, 126, rfl⟩
abbrev main_call0_call0_call0_v65 : Ref sig .tc := ⟨.hbm, 127, rfl⟩
abbrev main_call0_call0_call0_v66 : Ref sig .tc := ⟨.hbm, 128, rfl⟩
abbrev main_call0_call0_call0_v67 : Ref sig .tc := ⟨.hbm, 129, rfl⟩
abbrev main_call0_call0_call0_v68 : Ref sig .tc := ⟨.hbm, 130, rfl⟩
abbrev main_call0_call0_call0_v69 : Ref sig .tc := ⟨.hbm, 131, rfl⟩
abbrev main_call0_call0_call0_v70 : Ref sig .tc := ⟨.hbm, 132, rfl⟩
abbrev main_call0_call0_call0_v71 : Ref sig .tc := ⟨.hbm, 133, rfl⟩
abbrev main_call0_call0_call0_c_17 : Ref sig .tc := ⟨.hbm, 134, rfl⟩
abbrev main_call0_call0_call0_v72 : Ref sig .tc := ⟨.hbm, 135, rfl⟩
abbrev main_call0_call0_call0_v73 : Ref sig .tc := ⟨.hbm, 136, rfl⟩
abbrev main_call0_call0_call0_v74 : Ref sig .tc := ⟨.hbm, 137, rfl⟩
abbrev main_call0_call0_call0_c_18 : Ref sig .tc := ⟨.hbm, 138, rfl⟩
abbrev main_call0_call0_call0_v75 : Ref sig .tc := ⟨.hbm, 139, rfl⟩
abbrev main_call0_call0_call0_v76 : Ref sig .tc := ⟨.hbm, 140, rfl⟩
abbrev main_call0_call0_call0_c_19 : Ref sig .tc := ⟨.hbm, 141, rfl⟩
abbrev main_call0_call0_call0_v77 : Ref sig .tc := ⟨.hbm, 142, rfl⟩
abbrev main_call0_call0_call0_v78 : Ref sig .tc := ⟨.hbm, 143, rfl⟩
abbrev main_call0_call0_call0_v79 : Ref sig .tc := ⟨.hbm, 144, rfl⟩
abbrev main_call0_call0_call0_v80 : Ref sig .tc := ⟨.hbm, 145, rfl⟩
abbrev main_call0_call0_call0_v81 : Ref sig .tc := ⟨.hbm, 146, rfl⟩
abbrev main_call0_call0_call0_c_20 : Ref sig .tc := ⟨.hbm, 147, rfl⟩
abbrev main_call0_call0_call0_v82 : Ref sig .tc := ⟨.hbm, 148, rfl⟩
abbrev main_call0_call0_call0_v83 : Ref sig .tc := ⟨.hbm, 149, rfl⟩
abbrev main_call0_call0_call0_c_21 : Ref sig .tc := ⟨.hbm, 150, rfl⟩
abbrev main_call0_call0_call0_v84 : Ref sig .tc := ⟨.hbm, 151, rfl⟩
abbrev main_call0_call0_call0_v85 : Ref sig .tc := ⟨.hbm, 152, rfl⟩
abbrev main_call0_call0_call0_v86 : Ref sig .tc := ⟨.hbm, 153, rfl⟩
abbrev main_call0_call0_call0_v87 : Ref sig .tc := ⟨.hbm, 154, rfl⟩
abbrev main_call0_call0_call0_v88 : Ref sig .tc := ⟨.hbm, 155, rfl⟩
abbrev main_call0_call0_call0_c_22 : Ref sig .tc := ⟨.hbm, 156, rfl⟩
abbrev main_call0_call0_call0_v89 : Ref sig .tc := ⟨.hbm, 157, rfl⟩
abbrev main_call0_call0_call0_v90 : Ref sig .tc := ⟨.hbm, 158, rfl⟩
abbrev main_call0_call0_call0_c_23 : Ref sig .tc := ⟨.hbm, 159, rfl⟩
abbrev main_call0_call0_call0_v91 : Ref sig .tc := ⟨.hbm, 160, rfl⟩
abbrev main_call0_call0_call0_v92 : Ref sig .tc := ⟨.hbm, 161, rfl⟩
abbrev main_call0_call0_call0_v93 : Ref sig .tc := ⟨.hbm, 162, rfl⟩
abbrev main_call0_call0_call0_v94 : Ref sig .tc := ⟨.hbm, 163, rfl⟩
abbrev main_call0_call0_call0_v95 : Ref sig .tc := ⟨.hbm, 164, rfl⟩
abbrev main_call0_call0_call0_c_24 : Ref sig .tc := ⟨.hbm, 165, rfl⟩
abbrev main_call0_call0_call0_v96 : Ref sig .tc := ⟨.hbm, 166, rfl⟩
abbrev main_call0_call0_call0_v97 : Ref sig .tc := ⟨.hbm, 167, rfl⟩
abbrev main_call0_call0_call0_c_25 : Ref sig .tc := ⟨.hbm, 168, rfl⟩
abbrev main_call0_call0_call0_v98 : Ref sig .tc := ⟨.hbm, 169, rfl⟩
abbrev main_call0_call0_call0_v99 : Ref sig .tc := ⟨.hbm, 170, rfl⟩
abbrev main_call0_call0_call0_v100 : Ref sig .tc := ⟨.hbm, 171, rfl⟩
abbrev main_call0_call0_call0_v101 : Ref sig .tc := ⟨.hbm, 172, rfl⟩
abbrev main_call0_call0_call0_v102 : Ref sig .tc := ⟨.hbm, 173, rfl⟩
abbrev main_call0_call0_call0_v103 : Ref sig .tc := ⟨.hbm, 174, rfl⟩
abbrev main_call0_call0_call0_v104 : Ref sig .tc := ⟨.hbm, 175, rfl⟩
abbrev main_call0_call0_call0_v105 : Ref sig .tc := ⟨.hbm, 176, rfl⟩
abbrev main_call0_call0_call0_c_26 : Ref sig .tc := ⟨.hbm, 177, rfl⟩
abbrev main_call0_call0_call0_v106 : Ref sig .tc := ⟨.hbm, 178, rfl⟩
abbrev main_call0_call0_call0_v107 : Ref sig .tc := ⟨.hbm, 179, rfl⟩
abbrev main_call0_call0_call0_v108 : Ref sig .tc := ⟨.hbm, 180, rfl⟩
abbrev main_call0_call0_call0_c_27 : Ref sig .tc := ⟨.hbm, 181, rfl⟩
abbrev main_call0_call0_call0_v109 : Ref sig .tc := ⟨.hbm, 182, rfl⟩
abbrev main_call0_call0_call0_v110 : Ref sig .tc := ⟨.hbm, 183, rfl⟩
abbrev main_call0_call0_call0_c_28 : Ref sig .tc := ⟨.hbm, 184, rfl⟩
abbrev main_call0_call0_call0_v111 : Ref sig .tc := ⟨.hbm, 185, rfl⟩
abbrev main_call0_call0_call0_v112 : Ref sig .tc := ⟨.hbm, 186, rfl⟩
abbrev main_call0_call0_call0_v113 : Ref sig .tc := ⟨.hbm, 187, rfl⟩
abbrev main_call0_call0_call0_v114 : Ref sig .tc := ⟨.hbm, 188, rfl⟩
abbrev main_call0_call0_call0_v115 : Ref sig .tc := ⟨.hbm, 189, rfl⟩
abbrev main_call0_call0_call0_c_29 : Ref sig .tc := ⟨.hbm, 190, rfl⟩
abbrev main_call0_call0_call0_v116 : Ref sig .tc := ⟨.hbm, 191, rfl⟩
abbrev main_call0_call0_call0_v117 : Ref sig .tc := ⟨.hbm, 192, rfl⟩
abbrev main_call0_call0_call0_c_30 : Ref sig .tc := ⟨.hbm, 193, rfl⟩
abbrev main_call0_call0_call0_v118 : Ref sig .tc := ⟨.hbm, 194, rfl⟩
abbrev main_call0_call0_call0_v119 : Ref sig .tc := ⟨.hbm, 195, rfl⟩
abbrev main_call0_call0_call0_v120 : Ref sig .tc := ⟨.hbm, 196, rfl⟩
abbrev main_call0_call0_call0_v121 : Ref sig .tc := ⟨.hbm, 197, rfl⟩
abbrev main_call0_call0_call0_v122 : Ref sig .tc := ⟨.hbm, 198, rfl⟩
abbrev main_call0_call0_call0_c_31 : Ref sig .tc := ⟨.hbm, 199, rfl⟩
abbrev main_call0_call0_call0_v123 : Ref sig .tc := ⟨.hbm, 200, rfl⟩
abbrev main_call0_call0_call0_v124 : Ref sig .tc := ⟨.hbm, 201, rfl⟩
abbrev main_call0_call0_call0_c_32 : Ref sig .tc := ⟨.hbm, 202, rfl⟩
abbrev main_call0_call0_call0_v125 : Ref sig .tc := ⟨.hbm, 203, rfl⟩
abbrev main_call0_call0_call0_v126 : Ref sig .tc := ⟨.hbm, 204, rfl⟩
abbrev main_call0_call0_call0_v127 : Ref sig .tc := ⟨.hbm, 205, rfl⟩
abbrev main_call0_call0_call0_v128 : Ref sig .tc := ⟨.hbm, 206, rfl⟩
abbrev main_call0_call0_call0_v129 : Ref sig .tc := ⟨.hbm, 207, rfl⟩
abbrev main_call0_call0_call0_c_33 : Ref sig .tc := ⟨.hbm, 208, rfl⟩
abbrev main_call0_call0_call0_v130 : Ref sig .tc := ⟨.hbm, 209, rfl⟩
abbrev main_call0_call0_call0_v131 : Ref sig .tc := ⟨.hbm, 210, rfl⟩
abbrev main_call0_call0_call0_c_34 : Ref sig .tc := ⟨.hbm, 211, rfl⟩
abbrev main_call0_call0_call0_v132 : Ref sig .tc := ⟨.hbm, 212, rfl⟩
abbrev main_call0_call0_call0_v133 : Ref sig .tc := ⟨.hbm, 213, rfl⟩
abbrev main_call0_call0_call0_v134 : Ref sig .tc := ⟨.hbm, 214, rfl⟩
abbrev main_call0_call0_call0_v135 : Ref sig .tc := ⟨.hbm, 215, rfl⟩
abbrev main_call0_call0_call0_v136 : Ref sig .tc := ⟨.hbm, 216, rfl⟩
abbrev main_call0_call0_call0_v137 : Ref sig .tc := ⟨.hbm, 217, rfl⟩
abbrev main_call0_call0_call0_v138 : Ref sig .tc := ⟨.hbm, 218, rfl⟩
abbrev main_call0_call0_call0_v139 : Ref sig .tc := ⟨.hbm, 219, rfl⟩
abbrev main_call0_call0_call0_c_35 : Ref sig .tc := ⟨.hbm, 220, rfl⟩
abbrev main_call0_call0_call0_v140 : Ref sig .tc := ⟨.hbm, 221, rfl⟩
abbrev main_call0_call0_call0_v141 : Ref sig .tc := ⟨.hbm, 222, rfl⟩
abbrev main_call0_call0_call0_v142 : Ref sig .tc := ⟨.hbm, 223, rfl⟩
abbrev main_call0_call0_call0_c_36 : Ref sig .tc := ⟨.hbm, 224, rfl⟩
abbrev main_call0_call0_call0_v143 : Ref sig .tc := ⟨.hbm, 225, rfl⟩
abbrev main_call0_call0_call0_v144 : Ref sig .tc := ⟨.hbm, 226, rfl⟩
abbrev main_call0_call0_call0_c_37 : Ref sig .tc := ⟨.hbm, 227, rfl⟩
abbrev main_call0_call0_call0_v145 : Ref sig .tc := ⟨.hbm, 228, rfl⟩
abbrev main_call0_call0_call0_v146 : Ref sig .tc := ⟨.hbm, 229, rfl⟩
abbrev main_call0_call0_call0_v147 : Ref sig .tc := ⟨.hbm, 230, rfl⟩
abbrev main_call0_call0_call0_v148 : Ref sig .tc := ⟨.hbm, 231, rfl⟩
abbrev main_call0_call0_call0_v149 : Ref sig .tc := ⟨.hbm, 232, rfl⟩
abbrev main_call0_call0_call0_c_38 : Ref sig .tc := ⟨.hbm, 233, rfl⟩
abbrev main_call0_call0_call0_v150 : Ref sig .tc := ⟨.hbm, 234, rfl⟩
abbrev main_call0_call0_call0_v151 : Ref sig .tc := ⟨.hbm, 235, rfl⟩
abbrev main_call0_call0_call0_c_39 : Ref sig .tc := ⟨.hbm, 236, rfl⟩
abbrev main_call0_call0_call0_v152 : Ref sig .tc := ⟨.hbm, 237, rfl⟩
abbrev main_call0_call0_call0_v153 : Ref sig .tc := ⟨.hbm, 238, rfl⟩
abbrev main_call0_call0_call0_v154 : Ref sig .tc := ⟨.hbm, 239, rfl⟩
abbrev main_call0_call0_call0_v155 : Ref sig .tc := ⟨.hbm, 240, rfl⟩
abbrev main_call0_call0_call0_v156 : Ref sig .tc := ⟨.hbm, 241, rfl⟩
abbrev main_call0_call0_call0_c_40 : Ref sig .tc := ⟨.hbm, 242, rfl⟩
abbrev main_call0_call0_call0_v157 : Ref sig .tc := ⟨.hbm, 243, rfl⟩
abbrev main_call0_call0_call0_v158 : Ref sig .tc := ⟨.hbm, 244, rfl⟩
abbrev main_call0_call0_call0_c_41 : Ref sig .tc := ⟨.hbm, 245, rfl⟩
abbrev main_call0_call0_call0_v159 : Ref sig .tc := ⟨.hbm, 246, rfl⟩
abbrev main_call0_call0_call0_v160 : Ref sig .tc := ⟨.hbm, 247, rfl⟩
abbrev main_call0_call0_call0_v161 : Ref sig .tc := ⟨.hbm, 248, rfl⟩
abbrev main_call0_call0_call0_v162 : Ref sig .tc := ⟨.hbm, 249, rfl⟩
abbrev main_call0_call0_call0_v163 : Ref sig .tc := ⟨.hbm, 250, rfl⟩
abbrev main_call0_call0_call0_c_42 : Ref sig .tc := ⟨.hbm, 251, rfl⟩
abbrev main_call0_call0_call0_v164 : Ref sig .tc := ⟨.hbm, 252, rfl⟩
abbrev main_call0_call0_call0_v165 : Ref sig .tc := ⟨.hbm, 253, rfl⟩
abbrev main_call0_call0_call0_c_43 : Ref sig .tc := ⟨.hbm, 254, rfl⟩
abbrev main_call0_call0_call0_v166 : Ref sig .tc := ⟨.hbm, 255, rfl⟩
abbrev main_call0_call0_call0_v167 : Ref sig .tc := ⟨.hbm, 256, rfl⟩
abbrev main_call0_call0_call0_v168 : Ref sig .tc := ⟨.hbm, 257, rfl⟩
abbrev main_call0_call0_call0_v169 : Ref sig .tc := ⟨.hbm, 258, rfl⟩
abbrev main_call0_call0_call0_v170 : Ref sig .tc := ⟨.hbm, 259, rfl⟩
abbrev main_call0_call0_v18_0 : Ref sig .tc := ⟨.hbm, 260, rfl⟩
abbrev main_call0_call0_call0_v172 : Ref sig .tc := ⟨.hbm, 261, rfl⟩
abbrev main_call0_call0_call0_v173 : Ref sig .tc := ⟨.hbm, 262, rfl⟩
abbrev main_call0_call0_call0_c_44 : Ref sig .tc := ⟨.hbm, 263, rfl⟩
abbrev main_call0_call0_call0_v174 : Ref sig .tc := ⟨.hbm, 264, rfl⟩
abbrev main_call0_call0_v18_1 : Ref sig .tc := ⟨.hbm, 265, rfl⟩
abbrev main_call0_call0_v19 : Ref sig .tc := ⟨.hbm, 266, rfl⟩
abbrev main_call0_call0_c_2 : Ref sig .tc := ⟨.hbm, 267, rfl⟩
abbrev main_call0_call0_v20 : Ref sig .tc := ⟨.hbm, 268, rfl⟩
abbrev main_call0_call0_v21 : Ref sig .tc := ⟨.hbm, 269, rfl⟩
abbrev main_call0_call0_c_3 : Ref sig .tc := ⟨.hbm, 270, rfl⟩
abbrev main_call0_call0_v22 : Ref sig .tc := ⟨.hbm, 271, rfl⟩
abbrev main_call0_call0_v23 : Ref sig .tc := ⟨.hbm, 272, rfl⟩
abbrev main_call0_call0_v24 : Ref sig .tc := ⟨.hbm, 273, rfl⟩
abbrev main_call0_call0_cst : Ref sig .tc := ⟨.hbm, 274, rfl⟩
abbrev main_call0_call0_v25 : Ref sig .tc := ⟨.hbm, 275, rfl⟩
abbrev main_call0_call0_v26 : Ref sig .tc := ⟨.hbm, 276, rfl⟩
abbrev main_call0_call0_v27 : Ref sig .tc := ⟨.hbm, 277, rfl⟩
abbrev main_call0_call0_v28 : Ref sig .tc := ⟨.hbm, 278, rfl⟩
abbrev main_call0_call0_v29 : Ref sig .tc := ⟨.hbm, 279, rfl⟩
abbrev main_call0_call0_v30 : Ref sig .tc := ⟨.hbm, 280, rfl⟩
abbrev main_call0_call0_v31 : Ref sig .tc := ⟨.hbm, 281, rfl⟩
abbrev main_call0_call0_v32 : Ref sig .tc := ⟨.hbm, 282, rfl⟩
abbrev main_call0_v0 : Ref sig .tc := ⟨.hbm, 283, rfl⟩
abbrev main_call0_v1 : Ref sig .tc := ⟨.hbm, 284, rfl⟩
abbrev main_call0_v2 : Ref sig .tc := ⟨.hbm, 285, rfl⟩
abbrev main_call0_v3 : Ref sig .tc := ⟨.hbm, 286, rfl⟩
abbrev main_v15 : Ref sig .tc := ⟨.hbm, 287, rfl⟩
abbrev main_v16 : Ref sig .tc := ⟨.hbm, 288, rfl⟩
abbrev main_call1_v0 : Ref sig .tc := ⟨.hbm, 289, rfl⟩
abbrev main_call1_cst : Ref sig .tc := ⟨.hbm, 290, rfl⟩
abbrev main_call1_c : Ref sig .tc := ⟨.hbm, 291, rfl⟩
abbrev main_call1_v1_0 : Ref sig .tc := ⟨.hbm, 292, rfl⟩
abbrev main_v17 : Ref sig .tc := ⟨.hbm, 293, rfl⟩
abbrev main_v18 : Ref sig .tc := ⟨.hbm, 294, rfl⟩

abbrev nD : Nat := 1
abbrev τ : Topo := Topo.v7x

variable {F : FTy → Type} [FloatOps F]
-- ==== Proof.Chunk.lean ====
/-
What one trip of the kernel's loop computes, written as fifteen applications of one chunk.
-/
module

public import proofs.«01_k».proof.Proof.Gen.KernelIdeal.Frame

@[expose] public section

set_option maxRecDepth 16384

noncomputable section

namespace Cert.Sampler

open Idealize.ShloMosaic Idealize.ShloMosaic.Tactic Cert.KernelIdeal Cert.KernelIdeal.Gen

variable {F : FTy → Type} [FloatOps F]

/-- A left rotation by `r`, spelt with the two shifts; `r'` is the complementary distance. -/
def rotV {s : Shape} (x : IVec s 32) (r r' : BitVec 32) : IVec s 32 :=
  ori (shli x (broadcast s r)) (shrui x (broadcast s r'))

/-- One round on arrays of words: add, rotate, exclusive or. -/
def mixV {s : Shape} (r r' : BitVec 32) (p : IVec s 32 × IVec s 32) : IVec s 32 × IVec s 32 :=
  (addi p.1 p.2, xori (rotV p.2 r r') (addi p.1 p.2))

/-- A key injection on arrays of words. -/
def injV {s : Shape} (a b : BitVec 32) (p : IVec s 32 × IVec s 32) : IVec s 32 × IVec s 32 :=
  (addi p.1 (broadcast s a), addi p.2 (broadcast s b))

/-- The state after the first group of rounds, whose first round starts from equal words. -/
def headV {s : Shape} (g : IVec s 32) : IVec s 32 × IVec s 32 :=
  injV 42#32 466689009#32 (mixV 6#32 26#32 (mixV 26#32 6#32 (mixV 15#32 17#32
    (g, xori (rotV g 13#32 19#32) g))))

/-- Four rounds with the first rotations and a key injection, of arrays. -/
def groupAV {s : Shape} (a b : BitVec 32) (p : IVec s 32 × IVec s 32) : IVec s 32 × IVec s 32 :=
  injV a b (mixV 6#32 26#32 (mixV 26#32 6#32 (mixV 15#32 17#32 (mixV 13#32 19#32 p))))

/-- Four rounds with the second rotations and a key injection, of arrays. -/
def groupBV {s : Shape} (a b : BitVec 32) (p : IVec s 32 × IVec s 32) : IVec s 32 × IVec s 32 :=
  injV a b (mixV 24#32 8#32 (mixV 16#32 16#32 (mixV 29#32 3#32 (mixV 17#32 15#32 p))))

/-- The two words that the kernel's generator ends with. -/
def wordsV {s : Shape} (g : IVec s 32) : IVec s 32 × IVec s 32 :=
  groupAV 466689008#32 5#32 (groupBV 42#32 466689012#32 (groupAV 0#32 45#32
    (groupBV 466689008#32 2#32 (headV g))))

/-- The kernel's uniform draw less one from its words' exclusive or. -/
def unifV {s : Shape} (p : IVec s 32 × IVec s 32) : FVec F s .f32 :=
  subf (bitcastToFloat .f32 (ori (shrui (xori p.1 p.2) (broadcast s 9#32)) (broadcast s 1065353216#32)))
    (broadcast s (Scalar.ofBits .f32 0x3F800000#32))

/-- The kernel's Gumbel noise from a uniform draw. -/
def gumV {s : Shape} (u : FVec F s .f32) : FVec F s .f32 :=
  subf (broadcast s (Scalar.ofBits .f32 0x00000000#32))
    (log (subf (broadcast s (Scalar.ofBits .f32 0x00000000#32)) (log u)))

/-- The kernel's score of the probabilities `p` with row sums `t` at the counters `g`. -/
def scoreV {s : Shape} (g : IVec s 32) (p t : FVec F s .f32) : FVec F s .f32 :=
  addf (gumV (unifV (wordsV g))) (log (divf p t))

/-- One chunk's update of the running maximum and of the counter where it was met. -/
def updV {s : Shape} (g : IVec s 32) (sc : FVec F s .f32) (acc : FVec F s .f32 × IVec s 32) :
    FVec F s .f32 × IVec s 32 :=
  (select (cmpf .ogt sc acc.1) sc acc.1, select (cmpf .ogt sc acc.1) g acc.2)

/-- The probabilities of chunk `j` of trip `k`, read from the window's buffer. -/
def chunkIn (arg1 : Memref sig .tc .vmem S16x100000 .f32) (X : BufTy.Contents (Elt F) arg1.view.ty)
    (k : Fin k0_t1_loop.trips) (j : Fin 15) : FVec F S16x512 .f32 :=
  shapeCast S16x512 (View.readAt (Elt F) arg1.view
    (Rect.unit (s := S16x100000) (k0_off1 k (BitVec.ofNat 32 (512 * j.val))) S16x512.size
      (k0_off1_inb k j)).toLoadRect X) shapeCasts_S16x512_S16x512

/-- The counters of chunk `j` of trip `k`. -/
def chunkCtr (i : grid0.Coords) (k : Fin k0_t1_loop.trips) (j : Fin 15) : IVec S16x512 32 :=
  addi (k0_pay660 i) (broadcast S16x512
    (Scalar.addi (Scalar.muli (Scf.iv 0#32 1#32 k) 7680#32) (BitVec.ofNat 32 (512 * j.val))))

/-- The scores of chunk `j` of trip `k`. -/
def chunkScore (i : grid0.Coords) (arg1 : Memref sig .tc .vmem S16x100000 .f32) (v0 : Vec F S16x100000 .f32)
    (X : BufTy.Contents (Elt F) arg1.view.ty) (k : Fin k0_t1_loop.trips) (j : Fin 15) : FVec F S16x512 .f32 :=
  scoreV (chunkCtr i k j) (chunkIn arg1 X k j)
    (broadcastTo S16x512 (k0_pay658 v0) broadcasts_S16x1_S16x512)

/-- One chunk of a trip. -/
def chunkUpd (i : grid0.Coords) (arg1 : Memref sig .tc .vmem S16x100000 .f32) (v0 : Vec F S16x100000 .f32)
    (X : BufTy.Contents (Elt F) arg1.view.ty) (k : Fin k0_t1_loop.trips) (j : Fin 15)
    (acc : FVec F S16x512 .f32 × IVec S16x512 32) : FVec F S16x512 .f32 × IVec S16x512 32 :=
  updV (chunkCtr i k j) (chunkScore i arg1 v0 X k j) acc

/-- The state after the first `n` chunks of a trip. -/
def chunksUpd (i : grid0.Coords) (arg1 : Memref sig .tc .vmem S16x100000 .f32) (v0 : Vec F S16x100000 .f32)
    (X : BufTy.Contents (Elt F) arg1.view.ty) (k : Fin k0_t1_loop.trips)
    (acc : FVec F S16x512 .f32 × IVec S16x512 32) : (n : ℕ) → n ≤ 15 → FVec F S16x512 .f32 × IVec S16x512 32
  | 0, _ => acc
  | n + 1, h => chunkUpd i arg1 v0 X k ⟨n, h⟩ (chunksUpd i arg1 v0 X k acc n (Nat.le_of_succ_le h))

/-- A trip's result is the fifteen chunks one after the other. -/
theorem trip_eq (𝒱 : Variants) (c : Dev nD) (bd : Option 𝒱.V) (i : grid0.Coords)
    (arg1 : Memref sig .tc .vmem S16x100000 .f32) (harg1 : arg1.IsWhole)
    (arg2 : Memref sig .tc .vmem S16x1 .i32) (harg2 : arg2.IsWhole) (v0 : Vec F S16x100000 .f32)
    (X : BufTy.Contents (Elt F) arg1.view.ty) (k : Fin k0_t1_loop.trips)
    (acc : FVec F S16x512 .f32 × IVec S16x512 32) :
    tripR_k0_t1 (F := F) 𝒱 c bd i arg1 harg1 arg2 harg2 v0 X k acc
      = chunksUpd i arg1 v0 X k acc 15 (le_refl _) := by
  sl_kernel_rfl

end Cert.Sampler

end
-- ==== Proof.Spec.lean ====
/-
The arrays that the precondition names: the normalised probabilities, the noise and the scores.
-/
module

public import proofs.«01_k».proof.Pre_clear_winner
public import Idealize.ShloMosaic.Lib.Decide

@[expose] public section

set_option maxRecDepth 16384

noncomputable section

namespace Cert.Sampler

open Idealize.ShloMosaic Cert.Pre_clear_winner

/-- The side conditions that the precondition states. -/
instance preFacts : Cert.Pre_clear_winner.Facts := by
  constructor <;> decide

variable {F : FTy → Type} [FloatOps F]

/-- The probabilities as 512 rows. -/
def rowsV (x : FVec F S64x8x100000 .f32) : FVec F S512x100000 .f32 :=
  shapeCast S512x100000 x Facts.shapeCasts_S64x8x100000_S512x100000

/-- The probabilities over their rows' sums. -/
def quotV (x : FVec F S64x8x100000 .f32) : FVec F S512x100000 .f32 :=
  Host.divf (rowsV x)
    (broadcastInDim S512x100000 ![0, 1] Facts.bcast_S512x1_S512x100000_0_1
      (broadcastInDim S512x1 ![0] Facts.bcast_S512_S512x1_0
        (Host.reduceAdd (rowsV x) (constant S_ .f32 0x00000000#32) Facts.reducesTo_S512x100000_S512_d1 Facts.h_S_)))

/-- The key's two words. -/
def keyV : IVec S2 32 :=
  concatenate S2 0
    [⟨S1, broadcastInDim S1 ![] Facts.bcast_S_S1 (Host.shrui (constantI S_ 32 42#32) (constantI S_ 32 32#32))⟩,
     ⟨S1, broadcastInDim S1 ![] Facts.bcast_S_S1 (andi (constantI S_ 32 42#32) (constantI S_ 32 4294967295#32))⟩]
    Facts.concatenates_S1_S1_S2_d0

/-- The reference's Gumbel noise. -/
def noiseV : FVec F S512x100000 .f32 := fn_gumbel (F := F) keyV

/-- The reference's logits. -/
def logitsV (x : FVec F S64x8x100000 .f32) : FVec F S512x100000 .f32 :=
  Host.log (addf (quotV x)
    (broadcastInDim S512x100000 ![] Facts.bcast_S_S512x100000 (constant S_ .f32 0x0DA24260#32)))

/-- The reference's scores. -/
def rscoreV (x : FVec F S64x8x100000 .f32) : FVec F S512x100000 .f32 := addf noiseV (logitsV x)

/-- The precondition over these arrays. -/
theorem pre_eq (x : FVec F S64x8x100000 .f32) :
    Cert.Pre_clear_winner.fn (F := F) x = fn_part1 (F := F) (quotV x) noiseV (rscoreV x)
      (broadcastInDim S512x1 ![0] Facts.bcast_S512_S512x1_0 (fn_argmax (F := F) (rscoreV x))) := rfl

end Cert.Sampler

end
-- ==== Proof.Words.lean ====
/-
The generator's words, one counter at a time: the kernel's and the reference's are the same.
-/
module

public import proofs.«01_k».proof.Proof.Chunk
public import proofs.«01_k».proof.Proof.Spec

@[expose] public section

set_option maxRecDepth 16384

noncomputable section

namespace Cert.Sampler

open Idealize.ShloMosaic Idealize.ShloMosaic.Tactic

/-- A left rotation of a word. -/
def rotS (x r r' : BitVec 32) : BitVec 32 := (x <<< r) ||| (x >>> r')

/-- One round on a pair of words. -/
def mixS (r r' : BitVec 32) (p : BitVec 32 × BitVec 32) : BitVec 32 × BitVec 32 :=
  (p.1 + p.2, rotS p.2 r r' ^^^ (p.1 + p.2))

/-- A key injection on a pair of words. -/
def injS (a b : BitVec 32) (p : BitVec 32 × BitVec 32) : BitVec 32 × BitVec 32 := (p.1 + a, p.2 + b)

/-- Four rounds of the first kind and an injection. -/
def groupAS (a b : BitVec 32) (p : BitVec 32 × BitVec 32) : BitVec 32 × BitVec 32 :=
  injS a b (mixS 6#32 26#32 (mixS 26#32 6#32 (mixS 15#32 17#32 (mixS 13#32 19#32 p))))

/-- Four rounds of the second kind and an injection. -/
def groupBS (a b : BitVec 32) (p : BitVec 32 × BitVec 32) : BitVec 32 × BitVec 32 :=
  injS a b (mixS 24#32 8#32 (mixS 16#32 16#32 (mixS 29#32 3#32 (mixS 17#32 15#32 p))))

/-- The two words of a counter. -/
def wordsS (g : BitVec 32) : BitVec 32 × BitVec 32 :=
  groupAS 466689008#32 5#32 (groupBS 42#32 466689012#32 (groupAS 0#32 45#32
    (groupBS 466689008#32 2#32 (groupAS 42#32 466689009#32 (0#32, g)))))

/-- The random bits of a counter. -/
def bitsS (g : BitVec 32) : BitVec 32 := (wordsS g).1 ^^^ (wordsS g).2

/-- A pair of arrays of words read at an index. -/
def at2 {s : Shape} (p : IVec s 32 × IVec s 32) (ix : s.Idx) : BitVec 32 × BitVec 32 := (p.1 ix, p.2 ix)

/-- A left shift by less than the width. -/
theorem shl_at (u : ArithUnit) (x r : BitVec 32) (h : r.toNat < 32) : IntOp.shli u x r = x <<< r := if_pos h
/-- A right shift by less than the width. -/
theorem shr_at (u : ArithUnit) (x r : BitVec 32) (h : r.toNat < 32) : IntOp.shrui u x r = x >>> r := if_pos h

/-- A rotation of an array at an index. -/
theorem rotV_at {s : Shape} (x : IVec s 32) (r r' : BitVec 32) (h : r.toNat < 32) (h' : r'.toNat < 32)
    (ix : s.Idx) : rotV x r r' ix = rotS (x ix) r r' := by
  show IntOp.shli _ (x ix) r ||| IntOp.shrui _ (x ix) r' = _
  rw [shl_at _ _ _ h, shr_at _ _ _ h']; rfl

/-- A round of arrays at an index. -/
theorem mixV_at {s : Shape} (r r' : BitVec 32) (h : r.toNat < 32) (h' : r'.toNat < 32)
    (p : IVec s 32 × IVec s 32) (ix : s.Idx) : at2 (mixV r r' p) ix = mixS r r' (at2 p ix) := by
  have e := rotV_at p.2 r r' h h' ix
  show (p.1 ix + p.2 ix, rotV p.2 r r' ix ^^^ (p.1 ix + p.2 ix)) = _
  rw [e]; rfl

/-- An injection of arrays at an index. -/
theorem injV_at {s : Shape} (a b : BitVec 32) (p : IVec s 32 × IVec s 32) (ix : s.Idx) :
    at2 (injV a b p) ix = injS a b (at2 p ix) := rfl

/-- The first group of rounds of arrays, at an index. -/
theorem groupAV_at {s : Shape} (a b : BitVec 32) (p : IVec s 32 × IVec s 32) (ix : s.Idx) :
    at2 (groupAV a b p) ix = groupAS a b (at2 p ix) := by
  unfold groupAV groupAS
  rw [injV_at, mixV_at _ _ (by decide) (by decide), mixV_at _ _ (by decide) (by decide),
    mixV_at _ _ (by decide) (by decide), mixV_at _ _ (by decide) (by decide)]

/-- The second group of rounds of arrays, at an index. -/
theorem groupBV_at {s : Shape} (a b : BitVec 32) (p : IVec s 32 × IVec s 32) (ix : s.Idx) :
    at2 (groupBV a b p) ix = groupBS a b (at2 p ix) := by
  unfold groupBV groupBS
  rw [injV_at, mixV_at _ _ (by decide) (by decide), mixV_at _ _ (by decide) (by decide),
    mixV_at _ _ (by decide) (by decide), mixV_at _ _ (by decide) (by decide)]

/-- The opening rounds of arrays, at an index. -/
theorem headV_at {s : Shape} (g : IVec s 32) (ix : s.Idx) :
    at2 (headV g) ix = groupAS 42#32 466689009#32 (0#32, g ix) := by
  unfold headV groupAS
  rw [injV_at, mixV_at _ _ (by decide) (by decide), mixV_at _ _ (by decide) (by decide),
    mixV_at _ _ (by decide) (by decide)]
  have e := rotV_at g 13#32 19#32 (by decide) (by decide) ix
  have : at2 (g, xori (rotV g 13#32 19#32) g) ix = mixS 13#32 19#32 (0#32, g ix) := by
    show (g ix, rotV g 13#32 19#32 ix ^^^ g ix) = _
    rw [e]; simp [mixS]
  rw [this]

/-- The kernel's words at an index are the words of the counter there. -/
theorem wordsV_at {s : Shape} (g : IVec s 32) (ix : s.Idx) : at2 (wordsV g) ix = wordsS (g ix) := by
  unfold wordsV wordsS
  rw [groupAV_at, groupBV_at, groupAV_at, groupBV_at, headV_at]

/-- The kernel's random bits at an index. -/
theorem bitsV_at {s : Shape} (g : IVec s 32) (ix : s.Idx) :
    xori (wordsV g).1 (wordsV g).2 ix = bitsS (g ix) := by
  have h := wordsV_at g ix
  unfold bitsS; rw [← h]; rfl

end Cert.Sampler

end
-- ==== Proof.RefNoise.lean ====
/-
The reference's noise at an index, in terms of the words of the counter there.
-/
module

public import proofs.«01_k».proof.Proof.Words
public import Idealize.ShloMosaic.Lib.Tactic
public import Idealize.ShloMosaic.PureOps.Ideal.Laws

@[expose] public section

set_option maxRecDepth 16384

noncomputable section

namespace Cert.Sampler

open Idealize.ShloMosaic Idealize.ShloMosaic.Tactic Cert.Pre_clear_winner

/-- A word at every index, spelt as the reference spells it. -/
def bcK (k : IVec S_ 32) : IVec S512x100000 32 := broadcastInDim S512x100000 ![] Facts.bcast_S_S512x100000 k

/-- A literal word at every index. -/
def bcH (c : BitVec 32) : IVec S512x100000 32 := bcK (constantI S_ 32 c)

/-- One round, spelt as the reference spells it. -/
def mixH (r r' : BitVec 32) (p : IVec S512x100000 32 × IVec S512x100000 32) :
    IVec S512x100000 32 × IVec S512x100000 32 :=
  (addi p.1 p.2, xori (addi p.1 p.2) (ori (Host.shli p.2 (bcH r)) (Host.shrui p.2 (bcH r'))))

/-- A key injection, spelt as the reference spells it. -/
def injH (a b : IVec S_ 32) (c : BitVec 32) (p : IVec S512x100000 32 × IVec S512x100000 32) :
    IVec S512x100000 32 × IVec S512x100000 32 := (addi p.1 (bcK a), addi (addi p.2 (bcK b)) (bcH c))

/-- Four rounds with the first rotations and a key injection, in the reference. -/
def groupAH (a b : IVec S_ 32) (c : BitVec 32) (p : IVec S512x100000 32 × IVec S512x100000 32) :
    IVec S512x100000 32 × IVec S512x100000 32 :=
  injH a b c (mixH 6#32 26#32 (mixH 26#32 6#32 (mixH 15#32 17#32 (mixH 13#32 19#32 p))))

/-- Four rounds with the second rotations and a key injection, in the reference. -/
def groupBH (a b : IVec S_ 32) (c : BitVec 32) (p : IVec S512x100000 32 × IVec S512x100000 32) :
    IVec S512x100000 32 × IVec S512x100000 32 :=
  injH a b c (mixH 24#32 8#32 (mixH 16#32 16#32 (mixH 29#32 3#32 (mixH 17#32 15#32 p))))

/-- The third key word. -/
def ks2 (k0 k1 : IVec S_ 32) : IVec S_ 32 := xori (xori k0 k1) (constantI S_ 32 466688986#32)

/-- The reference's generator in five groups of four rounds. -/
theorem threefry_eq {F : FTy → Type} [FloatOps F] (k0 k1 : IVec S_ 32) (hi lo : IVec S512x100000 32) :
    fn_threefry2x32 (F := F) k0 k1 hi lo =
      groupAH (ks2 k0 k1) k0 5#32 (groupBH k1 (ks2 k0 k1) 4#32 (groupAH k0 k1 3#32
        (groupBH (ks2 k0 k1) k0 2#32 (groupAH k1 (ks2 k0 k1) 1#32
          (addi hi (bcK k0), addi lo (bcK k1)))))) := by
  sl_kernel_rfl

/-- A word at every index, read at one. -/
theorem bcK_at (k : IVec S_ 32) (w : BitVec 32) (h : ∀ j, k j = w) (ix : S512x100000.Idx) : bcK k ix = w := h _

/-- A round of the reference at an index. -/
theorem mixH_at (r r' : BitVec 32) (h : r.toNat < 32) (h' : r'.toNat < 32)
    (p : IVec S512x100000 32 × IVec S512x100000 32) (ix : S512x100000.Idx) :
    at2 (mixH r r' p) ix = mixS r r' (at2 p ix) := by
  show (p.1 ix + p.2 ix, (p.1 ix + p.2 ix) ^^^ (IntOp.shli .host (p.2 ix) r ||| IntOp.shrui .host (p.2 ix) r')) = _
  rw [shl_at _ _ _ h, shr_at _ _ _ h', BitVec.xor_comm]; rfl

/-- A key injection of the reference at an index. -/
theorem injH_at (a b : IVec S_ 32) (c wa wb wc : BitVec 32) (ha : ∀ j, a j = wa) (hb : ∀ j, b j = wb)
    (hc : wb + c = wc) (p : IVec S512x100000 32 × IVec S512x100000 32) (ix : S512x100000.Idx) :
    at2 (injH a b c p) ix = injS wa wc (at2 p ix) := by
  show (p.1 ix + bcK a ix, p.2 ix + bcK b ix + c) = _
  rw [bcK_at a wa ha, bcK_at b wb hb, BitVec.add_assoc, hc]; rfl

/-- The first group of rounds of the reference at an index. -/
theorem groupAH_at (a b : IVec S_ 32) (c wa wb wc : BitVec 32) (ha : ∀ j, a j = wa) (hb : ∀ j, b j = wb)
    (hc : wb + c = wc) (p : IVec S512x100000 32 × IVec S512x100000 32) (ix : S512x100000.Idx) :
    at2 (groupAH a b c p) ix = groupAS wa wc (at2 p ix) := by
  unfold groupAH groupAS
  rw [injH_at a b c wa wb wc ha hb hc, mixH_at _ _ (by decide) (by decide), mixH_at _ _ (by decide) (by decide),
    mixH_at _ _ (by decide) (by decide), mixH_at _ _ (by decide) (by decide)]

/-- The second group of rounds of the reference at an index. -/
theorem groupBH_at (a b : IVec S_ 32) (c wa wb wc : BitVec 32) (ha : ∀ j, a j = wa) (hb : ∀ j, b j = wb)
    (hc : wb + c = wc) (p : IVec S512x100000 32 × IVec S512x100000 32) (ix : S512x100000.Idx) :
    at2 (groupBH a b c p) ix = groupBS wa wc (at2 p ix) := by
  unfold groupBH groupBS
  rw [injH_at a b c wa wb wc ha hb hc, mixH_at _ _ (by decide) (by decide), mixH_at _ _ (by decide) (by decide),
    mixH_at _ _ (by decide) (by decide), mixH_at _ _ (by decide) (by decide)]

/-- The reference's words at an index are the words of the counter there, the key being (0, 42). -/
theorem threefry_at {F : FTy → Type} [FloatOps F] (k0 k1 : IVec S_ 32) (hi lo : IVec S512x100000 32)
    (h0 : ∀ j, k0 j = 0#32) (h1 : ∀ j, k1 j = 42#32) (ix : S512x100000.Idx) (hhi : hi ix = 0#32) :
    at2 (fn_threefry2x32 (F := F) k0 k1 hi lo) ix = wordsS (lo ix + 42#32) := by
  have h2 : ∀ j, ks2 k0 k1 j = 466689008#32 := by
    intro j
    show (k0 j ^^^ k1 j) ^^^ 466688986#32 = _
    rw [h0, h1]; decide
  rw [threefry_eq]
  unfold wordsS
  rw [groupAH_at _ _ _ _ _ _ h2 h0 (show (0#32 + 5#32) = 5#32 by decide),
    groupBH_at _ _ _ _ _ _ h1 h2 (show (466689008#32 + 4#32) = 466689012#32 by decide),
    groupAH_at _ _ _ _ _ _ h0 h1 (show (42#32 + 3#32) = 45#32 by decide),
    groupBH_at _ _ _ _ _ _ h2 h0 (show (0#32 + 2#32) = 2#32 by decide),
    groupAH_at _ _ _ _ _ _ h1 h2 (show (466689008#32 + 1#32) = 466689009#32 by decide)]
  have : at2 (addi hi (bcK k0), addi lo (bcK k1)) ix = (0#32, lo ix + 42#32) := by
    show (hi ix + bcK k0 ix, lo ix + bcK k1 ix) = _
    rw [bcK_at k0 _ h0, bcK_at k1 _ h1, hhi]; rfl
  rw [this]

/-- The key's words, as the uniform draw takes them. -/
def key0 : IVec S_ 32 :=
  shapeCast S_ (extractStridedSlice S1 ![0] keyV Facts.slices_S2_S1_0) Facts.shapeCasts_S1_S_
/-- The key's second word, as the reference reads it. -/
def key1 : IVec S_ 32 :=
  shapeCast S_ (extractStridedSlice S1 ![1] keyV Facts.slices_S2_S1_1) Facts.shapeCasts_S1_S_

/-- The key's first word is zero. -/
theorem key0_at (j) : key0 j = 0#32 := by
  have : ∀ k : S_.Idx, key0 k = 0#32 := by decide +kernel
  exact this j
/-- The key's second word is 42. -/
theorem key1_at (j) : key1 j = 42#32 := by
  have : ∀ k : S_.Idx, key1 k = 42#32 := by decide +kernel
  exact this j

/-- The 64-bit counters. -/
def ctr64 : IVec S512x100000 64 :=
  addi (muli (broadcastInDim S512x100000 ![] Facts.bcast_S_S512x100000 (constantI S_ 64 100000#64))
      (iotaInDim S512x100000 64 0))
    (muli (broadcastInDim S512x100000 ![] Facts.bcast_S_S512x100000 (constantI S_ 64 1#64))
      (iotaInDim S512x100000 64 1))

/-- The 64-bit counter at an index is the flat position. -/
theorem ctr64_toNat (ix : S512x100000.Idx) : (ctr64 ix).toNat = (ix 0).val * 100000 + (ix 1).val := by
  have h0 : (ix 0).val < 512 := (ix 0).isLt
  have h1 : (ix 1).val < 100000 := (ix 1).isLt
  show (100000#64 * BitVec.ofNat 64 (ix 0).val + 1#64 * BitVec.ofNat 64 (ix 1).val).toNat = _
  simp only [BitVec.toNat_add, BitVec.toNat_mul, BitVec.toNat_ofNat]
  omega

/-- The counters' low words. -/
def loV : IVec S512x100000 32 := trunci 32 ctr64 Facts.natLt_32_64
/-- The counters' high words. -/
def hiV : IVec S512x100000 32 :=
  trunci 32 (Host.shrui ctr64 (broadcastInDim S512x100000 ![] Facts.bcast_S_S512x100000 (constantI S_ 64 32#64)))
    Facts.natLt_32_64

/-- The low word at an index is the flat position. -/
theorem loV_at (ix : S512x100000.Idx) : loV ix = BitVec.ofNat 32 ((ix 0).val * 100000 + (ix 1).val) := by
  show (ctr64 ix).setWidth 32 = _
  apply BitVec.eq_of_toNat_eq
  rw [BitVec.toNat_setWidth, ctr64_toNat, BitVec.toNat_ofNat]

/-- The high word is zero everywhere. -/
theorem hiV_at (ix : S512x100000.Idx) : hiV ix = 0#32 := by
  have h0 : (ix 0).val < 512 := (ix 0).isLt
  have h1 : (ix 1).val < 100000 := (ix 1).isLt
  show (IntOp.shrui .host (ctr64 ix) 32#64).setWidth 32 = _
  have : IntOp.shrui .host (ctr64 ix) 32#64 = ctr64 ix >>> 32#64 := if_pos (by decide)
  rw [this]
  apply BitVec.eq_of_toNat_eq
  rw [BitVec.toNat_setWidth]
  show (ctr64 ix >>> (32#64).toNat).toNat % _ = _
  rw [BitVec.toNat_ushiftRight, ctr64_toNat, Nat.shiftRight_eq_div_pow,
    Nat.div_eq_of_lt (by rw [show (32#64).toNat = 32 from rfl]; omega)]
  rfl

/-- The reference's random bits. -/
def rbitsV (F : FTy → Type) [FloatOps F] : IVec S512x100000 32 :=
  xori (fn_threefry2x32 (F := F) key0 key1 hiV loV).1 (fn_threefry2x32 (F := F) key0 key1 hiV loV).2

/-- The counter of a token of a row. -/
def ctrS (r j : ℕ) : BitVec 32 := BitVec.ofNat 32 (r * 100000 + j + 42)

/-- The reference's random bits at an index. -/
theorem rbitsV_at {F : FTy → Type} [FloatOps F] (ix : S512x100000.Idx) :
    rbitsV F ix = bitsS (ctrS (ix 0).val (ix 1).val) := by
  have h := threefry_at (F := F) key0 key1 hiV loV key0_at key1_at ix (hiV_at ix)
  have hc : loV ix + 42#32 = ctrS (ix 0).val (ix 1).val := by
    rw [loV_at]; unfold ctrS; rw [← BitVec.ofNat_add]
  rw [hc] at h
  unfold bitsS; rw [← h]; rfl

/-- The noise in terms of the random bits. -/
theorem noiseV_eq {F : FTy → Type} [FloatOps F] : noiseV (F := F) =
    Host.negf (Host.log (Host.negf (Host.log (fn_uniform_part1 (F := F)
      (broadcastInDim S1x1 ![] Facts.bcast_S_S1x1 (constant S_ .f32 0x00800000#32))
      (broadcastInDim S1x1 ![] Facts.bcast_S_S1x1 (constant S_ .f32 0x3F800000#32)) (rbitsV F))))) := by
  sl_kernel_rfl

/-- The uniform draw of a word of random bits, before the reference's guard. -/
def uniS (b : BitVec 32) : EReal :=
  Ideal.ofBits .f32 ((b >>> 9#32) ||| 1065353216#32) - Ideal.ofBits .f32 0x3F800000#32

/-- The least positive normal number, the reference's guard. -/
def tinyS : EReal := Ideal.ofBits .f32 0x00800000#32

/-- The reference's guarded draw. -/
def guardS (u : EReal) : EReal := max tinyS (u * (Ideal.ofBits .f32 0x3F800000#32 - tinyS) + tinyS)

/-- The reference's noise of a draw. -/
def rgumS (u : EReal) : EReal := -Ideal.log (-Ideal.log u)

/-- The reference's noise of a word of random bits, in the operations of any float values. -/
def noiseG {F : FTy → Type} [FloatOps F] (b : BitVec 32) : F .f32 :=
  FloatOps.hostNegf (FloatOps.hostUnary .log (FloatOps.hostNegf (FloatOps.hostUnary .log
    (FloatOps.maximumf (FloatOps.ofBits .f32 0x00800000#32)
      (FloatOps.addf (FloatOps.mulf (FloatOps.subf
          (FloatOps.ofBits .f32 ((IntOp.shrui .host b 9#32) ||| 1065353216#32)) (FloatOps.ofBits .f32 0x3F800000#32))
          (FloatOps.subf (FloatOps.ofBits .f32 0x3F800000#32) (FloatOps.ofBits .f32 0x00800000#32)))
        (FloatOps.ofBits .f32 0x00800000#32))))))

/-- The noise of an array of random bits at an index. -/
theorem noise_bits {F : FTy → Type} [FloatOps F] (B : IVec S512x100000 32) (ix : S512x100000.Idx) :
    Host.negf (Host.log (Host.negf (Host.log (fn_uniform_part1 (F := F)
      (broadcastInDim S1x1 ![] Facts.bcast_S_S1x1 (constant S_ .f32 0x00800000#32))
      (broadcastInDim S1x1 ![] Facts.bcast_S_S1x1 (constant S_ .f32 0x3F800000#32)) B)))) ix = noiseG (B ix) := rfl

/-- The noise over the extended reals. -/
theorem noiseG_ideal (b : BitVec 32) : noiseG (F := Ideal) b = rgumS (guardS (uniS b)) := by
  have e : IntOp.shrui .host b 9#32 = b >>> 9#32 := if_pos (by decide)
  unfold noiseG uniS guardS rgumS tinyS
  rw [e]
  simp only [Ideal.ofBits_def, Ideal.addf_def, Ideal.subf_def, Ideal.mulf_def, Ideal.maximumf_def, Ideal.hostNegf_def,
    Ideal.hostUnary_log_def, Ideal.negf_def]

/-- The noise at an index. -/
theorem noiseV_at (ix : S512x100000.Idx) :
    noiseV (F := Ideal) ix = rgumS (guardS (uniS (bitsS (ctrS (ix 0).val (ix 1).val)))) := by
  rw [noiseV_eq, noise_bits, rbitsV_at, noiseG_ideal]

end Cert.Sampler

end
-- ==== Proof.Score.lean ====
/-
The kernel's score at an index, and the numbers that the uniform draws are.
-/
module

public import proofs.«01_k».proof.Proof.RefNoise

@[expose] public section

set_option maxRecDepth 16384

noncomputable section

namespace Cert.Sampler

open Idealize.ShloMosaic Idealize.ShloMosaic.Tactic

/-- The kernel's noise of a draw. -/
def kgumS (u : EReal) : EReal := 0 - Ideal.log (0 - Ideal.log u)

/-- The kernel's score of a counter, a probability and a total. -/
def kscoreS (g : BitVec 32) (p t : EReal) : EReal := kgumS (uniS (bitsS g)) + Ideal.log (Ideal.div p t)

/-- The same in the operations of any float values. -/
def kscoreG {F : FTy → Type} [FloatOps F] (b : BitVec 32) (p t : F .f32) : F .f32 :=
  FloatOps.addf (FloatOps.subf (FloatOps.ofBits .f32 0x00000000#32)
      (FloatOps.log (FloatOps.subf (FloatOps.ofBits .f32 0x00000000#32)
        (FloatOps.log (FloatOps.subf (FloatOps.ofBits .f32 ((IntOp.shrui .vector b 9#32) ||| 1065353216#32))
          (FloatOps.ofBits .f32 0x3F800000#32))))))
    (FloatOps.log (FloatOps.divf p t))

/-- The kernel's score at an index, over any float values. -/
theorem scoreV_bits {F : FTy → Type} [FloatOps F] {s : Shape} (g : IVec s 32) (p t : FVec F s .f32) (ix : s.Idx) :
    scoreV g p t ix = kscoreG (xori (wordsV g).1 (wordsV g).2 ix) (p ix) (t ix) := rfl

/-- The pattern of zero. -/
theorem ofBits_zero : Ideal.ofBits .f32 0x00000000#32 = 0 := by simp [Ideal.ofBits, Ideal.ieee]

/-- The kernel's score over the extended reals. -/
theorem kscoreG_ideal (g : BitVec 32) (p t : EReal) : kscoreG (F := Ideal) (bitsS g) p t = kscoreS g p t := by
  have e : IntOp.shrui .vector (bitsS g) 9#32 = bitsS g >>> 9#32 := if_pos (by decide)
  unfold kscoreG kscoreS kgumS uniS
  rw [e]
  simp only [Ideal.ofBits_def, Ideal.addf_def, Ideal.subf_def, Ideal.log_def, Ideal.divf_def, ofBits_zero]

/-- The kernel's score at an index. -/
theorem scoreV_at {s : Shape} (g : IVec s 32) (p t : FVec Ideal s .f32) (ix : s.Idx) :
    scoreV g p t ix = kscoreS (g ix) (p ix) (t ix) := by
  rw [scoreV_bits, bitsV_at, kscoreG_ideal]

/-- The pattern of one. -/
theorem ofBits_one : Ideal.ofBits .f32 0x3F800000#32 = ((1 : ℝ) : EReal) := by
  simp [Ideal.ofBits, Ideal.ieee, -EReal.coe_mul]; norm_num

/-- The pattern of minus infinity. -/
theorem ofBits_ninf : Ideal.ofBits .f32 0xFF800000#32 = ⊥ := by
  simp [Ideal.ofBits, Ideal.ieee]

/-- The guard is two to the minus 126. -/
theorem tinyS_eq : tinyS = (((2 : ℝ) ^ (-126 : ℤ) : ℝ) : EReal) := by
  simp [tinyS, Ideal.ofBits, Ideal.ieee, -EReal.coe_mul]; norm_num

/-- A word's upper bits under the exponent of one. -/
theorem word_toNat (b : BitVec 32) :
    (b >>> 9#32 ||| 1065353216#32).toNat = 127 * 2 ^ 23 + b.toNat / 2 ^ 9 := by
  have h1 : (b >>> 9#32).toNat = b.toNat / 2 ^ 9 := by
    show (b >>> (9#32).toNat).toNat = _
    rw [BitVec.toNat_ushiftRight, Nat.shiftRight_eq_div_pow]; rfl
  have h2 : b.toNat / 2 ^ 9 < 2 ^ 23 := by have := b.isLt; omega
  rw [BitVec.toNat_or, h1, Nat.or_comm]
  have := Nat.shiftLeft_add_eq_or_of_lt h2 127
  rw [Nat.shiftLeft_eq] at this
  rw [this]; rfl

/-- A draw is a multiple of two to the minus twenty-third, in [0, 1). -/
theorem uniS_eq (b : BitVec 32) :
    ∃ k : ℕ, k < 2 ^ 23 ∧ uniS b = (((k : ℝ) / 2 ^ 23 : ℝ) : EReal) := by
  have h2 : b.toNat / 2 ^ 9 < 2 ^ 23 := by have := b.isLt; omega
  refine ⟨b.toNat / 2 ^ 9, h2, ?_⟩
  have hn := word_toNat b
  generalize b.toNat / 2 ^ 9 = k at hn h2 ⊢
  unfold uniS
  generalize (b >>> 9#32 ||| 1065353216#32) = x at hn ⊢
  have hs : (x.extractLsb' (8 + 23) 1 == 1#1) = false := by
    have : x.extractLsb' (8 + 23) 1 = 0#1 := by
      apply BitVec.eq_of_toNat_eq
      rw [BitVec.extractLsb'_toNat, hn, Nat.shiftRight_eq_div_pow]
      show _ = 0
      omega
    rw [this]; rfl
  have hx : (x.extractLsb' 23 8).toNat = 127 := by
    rw [BitVec.extractLsb'_toNat, hn, Nat.shiftRight_eq_div_pow]; omega
  have hf : (x.extractLsb' 0 23).toNat = k := by
    rw [BitVec.extractLsb'_toNat, hn, Nat.shiftRight_eq_div_pow]; omega
  have hv : Ideal.ofBits .f32 x = ((1 + (k : ℝ) / 2 ^ 23 : ℝ) : EReal) := by
    show Ideal.ieee 8 23 x = _
    unfold Ideal.ieee
    simp only [hs, hx, hf]
    rw [if_neg (by norm_num), if_neg (by norm_num)]
    congr 1
    push_cast
    norm_num
    ring
  rw [ofBits_one, hv, ← EReal.coe_sub]
  congr 1
  ring

end Cert.Sampler

end
-- ==== Proof.Perturb.lean ====
/-
How far the reference's two guards move a score: never down, and up by less than the margin where the
draw and the probability are not tiny.
-/
module

public import proofs.«01_k».proof.Proof.Score

@[expose] public section

noncomputable section

namespace Cert.Sampler

open Idealize.ShloMosaic

/-- The reference's guard of a probability. -/
def epsS : EReal := Ideal.ofBits .f32 0x0DA24260#32
/-- The precondition's least probability of a winner. -/
def qminS : EReal := Ideal.ofBits .f32 0x2B8CBCCC#32
/-- The precondition's bound of a winner's noise. -/
def nminS : EReal := Ideal.ofBits .f32 0xC0800000#32
/-- The precondition's margin. -/
def gapS : EReal := Ideal.ofBits .f32 0x3727C5AC#32

/-- The reference's addend is a positive real below 1e-29. -/
theorem epsS_eq : ∃ e : ℝ, epsS = (e : EReal) ∧ 0 < e ∧ e ≤ 1 / 10 ^ 29 := by
  refine ⟨(10633824 : ℝ) * (2 : ℝ) ^ (-123 : ℤ), ?_, by positivity, ?_⟩
  · simp [epsS, Ideal.ofBits, Ideal.ieee, -EReal.coe_mul]
  · norm_num
/-- The least probability is a real of at least 1e-13. -/
theorem qminS_eq : ∃ e : ℝ, qminS = (e : EReal) ∧ 1 / 10 ^ 13 ≤ e := by
  refine ⟨(9223372 : ℝ) * (2 : ℝ) ^ (-63 : ℤ), ?_, ?_⟩
  · simp [qminS, Ideal.ofBits, Ideal.ieee, -EReal.coe_mul]
  · norm_num
/-- The noise's bound is minus four. -/
theorem nminS_eq : nminS = ((-4 : ℝ) : EReal) := by
  simp [nminS, Ideal.ofBits, Ideal.ieee, -EReal.coe_mul, -EReal.coe_neg]; norm_num
/-- The margin is a real of at least 1e-6. -/
theorem gapS_eq : ∃ e : ℝ, gapS = (e : EReal) ∧ 1 / 10 ^ 6 ≤ e := by
  refine ⟨(10995116 : ℝ) * (2 : ℝ) ^ (-40 : ℤ), ?_, ?_⟩
  · simp [gapS, Ideal.ofBits, Ideal.ieee, -EReal.coe_mul]
  · norm_num

/-- The logarithm is monotone. -/
theorem log_mono {x y : EReal} (h : x ≤ y) : Ideal.log x ≤ Ideal.log y := by
  induction x using EReal.rec with
  | bot => exact bot_le
  | top => rw [top_le_iff.mp h]
  | coe a =>
    induction y using EReal.rec with
    | bot => exact absurd (le_bot_iff.mp h) (EReal.coe_ne_bot a)
    | top => exact le_top
    | coe b =>
      rw [Ideal.log_coe, Ideal.log_coe]
      have hab : a ≤ b := EReal.coe_le_coe_iff.mp h
      by_cases ha : a ≤ 0
      · rw [if_pos ha]; exact bot_le
      · rw [if_neg ha, if_neg (by linarith)]
        exact EReal.coe_le_coe_iff.mpr (Real.log_le_log (by linarith) hab)

/-- The logarithm at a positive real number. -/
theorem log_pos_coe {a : ℝ} (h : 0 < a) : Ideal.log (a : EReal) = (Real.log a : EReal) := by
  rw [Ideal.log_coe, if_neg (not_le.mpr h)]

/-- The guarded draw, as a real number. -/
theorem guardS_coe {u : ℝ} (h0 : 0 ≤ u) : guardS (u : EReal) =
    ((u * (1 - (2 : ℝ) ^ (-126 : ℤ)) + (2 : ℝ) ^ (-126 : ℤ) : ℝ) : EReal) := by
  unfold guardS
  rw [tinyS_eq, ofBits_one, ← EReal.coe_sub, ← EReal.coe_mul, ← EReal.coe_add]
  refine max_eq_right (EReal.coe_le_coe_iff.mpr ?_)
  have : 0 ≤ u * (1 - (2 : ℝ) ^ (-126 : ℤ)) := mul_nonneg h0 (by norm_num)
  linarith

/-- The noise of a draw strictly between zero and one, as a real number, in either spelling. -/
theorem kgumS_coe {u : ℝ} (h0 : 0 < u) (h1 : u < 1) : kgumS (u : EReal) = ((-Real.log (-Real.log u) : ℝ) : EReal) := by
  have hl : Real.log u < 0 := Real.log_neg h0 h1
  unfold kgumS
  rw [log_pos_coe h0, zero_sub, zero_sub, ← EReal.coe_neg, log_pos_coe (by linarith), ← EReal.coe_neg]
/-- The reference's noise of a draw strictly between zero and one. -/
theorem rgumS_coe {u : ℝ} (h0 : 0 < u) (h1 : u < 1) : rgumS (u : EReal) = ((-Real.log (-Real.log u) : ℝ) : EReal) := by
  have hl : Real.log u < 0 := Real.log_neg h0 h1
  unfold rgumS
  rw [log_pos_coe h0, ← EReal.coe_neg, log_pos_coe (by linarith), ← EReal.coe_neg]

/-- Two draws that differ by a tiny guard have noises that hardly differ. -/
theorem gum_close {u t : ℝ} (h0 : 1 / 2 ^ 23 ≤ u) (h1 : u < 1) (ht0 : 0 < t) (ht1 : t ≤ 1 / 2 ^ 100) :
    -Real.log (-Real.log u) ≤ -Real.log (-Real.log (u * (1 - t) + t)) ∧
    -Real.log (-Real.log (u * (1 - t) + t)) ≤ -Real.log (-Real.log u) + 1 / 2 ^ 70 := by
  have hu : 0 < u := lt_of_lt_of_le (by norm_num) h0
  have htle : t ≤ 1 / 2 := le_trans ht1 (by norm_num)
  set v := u * (1 - t) + t with hv
  have hvu : v - u = t * (1 - u) := by rw [hv]; ring
  have hv1 : 1 - v = (1 - u) * (1 - t) := by rw [hv]; ring
  have huv : u ≤ v := by
    have : 0 ≤ t * (1 - u) := mul_nonneg ht0.le (by linarith)
    linarith
  have hv0 : 0 < v := lt_of_lt_of_le hu huv
  have hvlt : v < 1 := by
    have : 0 < (1 - u) * (1 - t) := mul_pos (by linarith) (by linarith)
    linarith
  have hLv : 1 - v ≤ -Real.log v := by have := Real.log_le_sub_one_of_pos hv0; linarith
  have hLvpos : 0 < -Real.log v := by linarith
  have hmono : Real.log u ≤ Real.log v := Real.log_le_log hu huv
  have hLupos : 0 < -Real.log u := by linarith
  refine ⟨by have := Real.log_le_log hLvpos (neg_le_neg hmono); linarith, ?_⟩
  -- the logarithms of the draws differ by at most the quotient's excess
  have hd : Real.log v - Real.log u ≤ (v - u) / u := by
    rw [← Real.log_div hv0.ne' hu.ne']
    have := Real.log_le_sub_one_of_pos (div_pos hv0 hu)
    have e : v / u - 1 = (v - u) / u := by field_simp
    linarith
  have hq : Real.log (-Real.log u) - Real.log (-Real.log v) ≤ (Real.log v - Real.log u) / (-Real.log v) := by
    rw [← Real.log_div hLupos.ne' hLvpos.ne']
    have := Real.log_le_sub_one_of_pos (div_pos hLupos hLvpos)
    have e : -Real.log u / -Real.log v - 1 = (Real.log v - Real.log u) / (-Real.log v) := by
      rw [div_sub_one hLvpos.ne']; congr 1; ring
    linarith
  have hb : (Real.log v - Real.log u) / (-Real.log v) ≤ 1 / 2 ^ 70 := by
    rw [div_le_iff₀ hLvpos]
    have h3 : (v - u) / u ≤ 1 / 2 ^ 70 * (1 - v) := by
      rw [div_le_iff₀ hu, hvu, hv1]
      have h4 : t ≤ 1 / 2 ^ 70 * (1 - t) * u := by
        have : (1 / 2 ^ 70 * (1 / 2)) * (1 / 2 ^ 23 : ℝ) ≤ 1 / 2 ^ 70 * (1 - t) * u := by
          apply mul_le_mul _ h0 (by norm_num) (mul_nonneg (by norm_num) (by linarith))
          apply mul_le_mul_of_nonneg_left _ (by norm_num)
          linarith
        refine le_trans ht1 (le_trans ?_ this)
        norm_num
      have h5 : 0 ≤ 1 - u := by linarith
      nlinarith [mul_le_mul_of_nonneg_right h4 h5]
    have h6 : 1 / 2 ^ 70 * (1 - v) ≤ 1 / 2 ^ 70 * (-Real.log v) :=
      mul_le_mul_of_nonneg_left hLv (by norm_num)
    linarith
  linarith

/-- At a draw of zero the reference's noise is below minus four. -/
theorem rgum_zero : rgumS (guardS ((0 : ℝ) : EReal)) ≤ nminS := by
  rw [guardS_coe le_rfl, rgumS_coe (by norm_num) (by norm_num), nminS_eq]
  refine EReal.coe_le_coe_iff.mpr ?_
  have e : Real.log ((0 : ℝ) * (1 - (2 : ℝ) ^ (-126 : ℤ)) + (2 : ℝ) ^ (-126 : ℤ)) = -(126 * Real.log 2) := by
    rw [zero_mul, zero_add, Real.log_zpow]; push_cast; ring
  rw [e, neg_neg]
  have h2 : 1 / 2 ≤ Real.log 2 := by
    have h := Real.log_le_sub_one_of_pos (show (0 : ℝ) < 2⁻¹ by norm_num)
    rw [Real.log_inv] at h
    norm_num at h ⊢
    linarith
  have h4 : Real.exp 4 ≤ 126 * Real.log 2 := by
    have e4 : Real.exp 4 = Real.exp (1 / 40) ^ 160 := by rw [← Real.exp_nat_mul]; norm_num
    have h40 : Real.exp (1 / 40) ≤ 40 / 39 := by
      have h := Real.add_one_le_exp (-(1 / 40) : ℝ)
      rw [Real.exp_neg] at h
      have h' : (39 / 40 : ℝ) ≤ (Real.exp (1 / 40))⁻¹ := by norm_num at h ⊢; linarith
      have := inv_anti₀ (by norm_num) h'
      rw [inv_inv] at this
      norm_num at this ⊢
      exact this
    rw [e4]
    have h5 : Real.exp (1 / 40) ^ 160 ≤ (40 / 39 : ℝ) ^ 160 := pow_le_pow_left₀ (Real.exp_pos _).le h40 160
    have h6 : (40 / 39 : ℝ) ^ 160 ≤ 63 := by norm_num
    linarith
  have : 4 ≤ Real.log (126 * Real.log 2) := (Real.le_log_iff_exp_le (by linarith)).mpr h4
  linarith

/-- The reference's noise of a counter. -/
def rnoiseS (g : BitVec 32) : EReal := rgumS (guardS (uniS (bitsS g)))

/-- The reference's score of a counter, a probability and a total. -/
def rscoreS (g : BitVec 32) (p t : EReal) : EReal := rnoiseS g + Ideal.log (Ideal.div p t + epsS)

/-- The guards raise the noise by next to nothing, where the reference's noise exceeds minus four. -/
theorem noise_bounds (g : BitVec 32) : kgumS (uniS (bitsS g)) ≤ rnoiseS g ∧
    (nminS < rnoiseS g → ∃ a a' : ℝ, kgumS (uniS (bitsS g)) = (a : EReal) ∧ rnoiseS g = (a' : EReal) ∧
      a' ≤ a + 1 / 2 ^ 70) := by
  obtain ⟨k, hk, hu⟩ := uniS_eq (bitsS g)
  unfold rnoiseS
  rw [hu]
  rcases Nat.eq_zero_or_pos k with rfl | hk0
  · have e : ((0 : ℕ) : ℝ) / 2 ^ 23 = 0 := by norm_num
    rw [e]
    refine ⟨?_, fun h => absurd (lt_of_lt_of_le h rgum_zero) (lt_irrefl _)⟩
    unfold kgumS
    rw [Ideal.log_coe, if_pos le_rfl]
    simp
  · have h0 : (1 : ℝ) / 2 ^ 23 ≤ (k : ℝ) / 2 ^ 23 :=
      div_le_div_of_nonneg_right (by exact_mod_cast hk0) (by positivity)
    have h1 : (k : ℝ) / 2 ^ 23 < 1 := by
      rw [div_lt_one (by positivity)]; exact_mod_cast hk
    generalize (k : ℝ) / 2 ^ 23 = u at h0 h1 ⊢
    have hu0 : 0 < u := lt_of_lt_of_le (by norm_num) h0
    obtain ⟨c1, c2⟩ := gum_close h0 h1 (t := (2 : ℝ) ^ (-126 : ℤ)) (by positivity) (by norm_num)
    have hv0 : 0 < u * (1 - (2 : ℝ) ^ (-126 : ℤ)) + (2 : ℝ) ^ (-126 : ℤ) := by
      have : 0 < u * (1 - (2 : ℝ) ^ (-126 : ℤ)) := mul_pos hu0 (by norm_num)
      have : (0 : ℝ) < (2 : ℝ) ^ (-126 : ℤ) := by positivity
      linarith
    have hv1 : u * (1 - (2 : ℝ) ^ (-126 : ℤ)) + (2 : ℝ) ^ (-126 : ℤ) < 1 := by
      have e : 1 - (u * (1 - (2 : ℝ) ^ (-126 : ℤ)) + (2 : ℝ) ^ (-126 : ℤ)) = (1 - u) * (1 - (2 : ℝ) ^ (-126 : ℤ)) := by ring
      have : 0 < (1 - u) * (1 - (2 : ℝ) ^ (-126 : ℤ)) := mul_pos (by linarith) (by norm_num)
      linarith
    rw [guardS_coe hu0.le, kgumS_coe hu0 h1, rgumS_coe hv0 hv1]
    exact ⟨EReal.coe_le_coe_iff.mpr c1, fun _ => ⟨_, _, rfl, rfl, c2⟩⟩

/-- The kernel's score never exceeds the reference's. -/
theorem kscore_le (g : BitVec 32) (p t : EReal) : kscoreS g p t ≤ rscoreS g p t := by
  obtain ⟨e, he, he0, -⟩ := epsS_eq
  refine add_le_add (noise_bounds g).1 (log_mono (le_add_of_nonneg_right ?_))
  rw [he]; exact EReal.coe_nonneg.mpr he0.le

/-- The kernel's score of a token whose noise and probability are not tiny is within the margin of the
    reference's, and more than minus infinity. -/
theorem kscore_ge (g : BitVec 32) (p t : EReal) (hn : nminS < rnoiseS g) (hq : qminS ≤ Ideal.div p t) :
    rscoreS g p t - gapS ≤ kscoreS g p t ∧ ⊥ < kscoreS g p t := by
  obtain ⟨e, he, he0, he1⟩ := epsS_eq
  obtain ⟨m, hm, hm1⟩ := qminS_eq
  obtain ⟨d, hd, hd1⟩ := gapS_eq
  obtain ⟨a, a', ha, ha', hb⟩ := (noise_bounds g).2 hn
  unfold rscoreS kscoreS
  rw [ha, ha', he, hd]
  rw [hm] at hq
  generalize Ideal.div p t = q at hq ⊢
  induction q using EReal.rec with
  | bot => exact absurd (le_bot_iff.mp hq) (EReal.coe_ne_bot m)
  | top => rw [Ideal.log_top, EReal.coe_add_top]; exact ⟨le_top, bot_lt_top⟩
  | coe r =>
    have hr : m ≤ r := EReal.coe_le_coe_iff.mp hq
    have hm0 : (0 : ℝ) < m := lt_of_lt_of_le (by norm_num) hm1
    have hr0 : 0 < r := lt_of_lt_of_le hm0 hr
    rw [← EReal.coe_add, log_pos_coe hr0, log_pos_coe (by linarith), ← EReal.coe_add, ← EReal.coe_add,
      ← EReal.coe_sub]
    refine ⟨EReal.coe_le_coe_iff.mpr ?_, EReal.bot_lt_coe _⟩
    have h1 : Real.log (r + e) - Real.log r ≤ e / r := by
      rw [← Real.log_div (by linarith) hr0.ne']
      have := Real.log_le_sub_one_of_pos (show 0 < (r + e) / r by positivity)
      have e2 : (r + e) / r - 1 = e / r := by field_simp; ring
      linarith
    have h2 : e / r ≤ 1 / 10 ^ 16 := by
      rw [div_le_iff₀ hr0]
      have : (1 : ℝ) / 10 ^ 16 * (1 / 10 ^ 13) ≤ 1 / 10 ^ 16 * r :=
        mul_le_mul_of_nonneg_left (le_trans hm1 hr) (by norm_num)
      refine le_trans he1 (le_trans ?_ this)
      norm_num
    have h3 : (1 : ℝ) / 10 ^ 16 + 1 / 2 ^ 70 ≤ 1 / 10 ^ 6 := by norm_num
    linarith

end Cert.Sampler

end
-- ==== Proof.Block.lean ====
/-
What one grid point stores, in terms of the scores of the loop's chunks and of the tail.
-/
module

public import proofs.«01_k».proof.Proof.Chunk

@[expose] public section

set_option maxRecDepth 16384

noncomputable section

namespace Cert.Sampler

open Idealize.ShloMosaic Idealize.ShloMosaic.Tactic Cert.KernelIdeal Cert.KernelIdeal.Gen

variable {F : FTy → Type} [FloatOps F]

/-- The whole window, as the row sums read it. -/
def fullV (arg1 : Memref sig .tc .vmem S16x100000 .f32) (X : BufTy.Contents (Elt F) arg1.view.ty) :
    Vec F S16x100000 .f32 :=
  View.readAt (Elt F) arg1.view
    (Rect.unit (s := S16x100000) ![0, 0] S16x100000.size inb_S16x100000_S16x100000_0_0).toLoadRect X

/-- The probabilities of the tail, the last 160 columns of the window. -/
def tailIn (arg1 : Memref sig .tc .vmem S16x100000 .f32) (X : BufTy.Contents (Elt F) arg1.view.ty) :
    FVec F S16x160 .f32 :=
  shapeCast S16x160 (View.readAt (Elt F) arg1.view
    (Rect.unit (s := S16x100000) ![0, 99840] S16x160.size inb_S16x100000_S16x160_0_99840).toLoadRect X)
    shapeCasts_S16x160_S16x160

/-- The scores of the tail. -/
def tailScore (i : grid0.Coords) (arg1 : Memref sig .tc .vmem S16x100000 .f32) (v0 : Vec F S16x100000 .f32)
    (X : BufTy.Contents (Elt F) arg1.view.ty) : FVec F S16x160 .f32 :=
  scoreV (k0_pay669 i) (tailIn arg1 X) (broadcastTo S16x160 (k0_pay658 v0) broadcasts_S16x1_S16x160)

/-- The best score of each row of the tail. -/
def tailBest (sc : FVec F S16x160 .f32) : FVec F S16x1 .f32 :=
  shapeCast S16x1 (multiReduction .maximumf [1] S16 sc 0xFF800000#32 reduces_S16x160_S16 (.inl rfl) rfl)
    shapeCasts_S16_S16x1

/-- The least counter of the tail that attains its row's best score. -/
def tailAns (g : IVec S16x160 32) (sc : FVec F S16x160 .f32) : IVec S16x1 32 :=
  shapeCast S16x1 (multiReductionI .minsi [1] S16
    (select (cmpf .oeq sc (broadcastTo S16x160 (tailBest sc) broadcasts_S16x1_S16x160)) g
      (broadcast S16x160 2147483647#32)) 2147483647#32 reduces_S16x160_S16 rfl) shapeCasts_S16_S16x1

/-- The running maxima and their counters after all the trips. -/
def loopEnd (c : Dev nD) (i : grid0.Coords) (arg1 : Memref sig .tc .vmem S16x100000 .f32) (harg1 : arg1.IsWhole)
    (arg2 : Memref sig .tc .vmem S16x1 .i32) (harg2 : arg2.IsWhole)
    (X : BufTy.Contents (Elt F) arg1.view.ty) : FVec F S16x512 .f32 × IVec S16x512 32 :=
  st_k0_t1 Variants.none c none i arg1 harg1 arg2 harg2 (fullV arg1 X) X (k0_pay661, k0_pay662)
    (Scf.trips k0_t1_loop.lb k0_t1_loop.ub k0_t1_loop.st)

/-- The stored column: the loop's winner against the tail's. -/
def mergeV (n : IVec S16x1 32) (best : FVec F S16x1 .f32) (ans : IVec S16x1 32) (tb : FVec F S16x1 .f32)
    (ta : IVec S16x1 32) : IVec S16x1 32 :=
  k0_pay1 n best ans tb ta (cmpf .ogt tb best)

/-- One grid point writes one piece, the whole column of winners. -/
theorem run_eq (c : Dev nD) (i : grid0.Coords) (arg1 : Memref sig .tc .vmem S16x100000 .f32) (harg1 : arg1.IsWhole)
    (arg2 : Memref sig .tc .vmem S16x1 .i32) (harg2 : arg2.IsWhole) (x0 : Vec F S16x100000 .f32) :
    (kernelRun0_A c i arg1 harg1 arg2 harg2 x0).1 =
      [⟨Rect.unit (s := S16x1) ![0, 0] ![16, 1] inb_S16x1_S16x1_0_0,
        mergeV (k0_pay659 i)
          (k0_pay667 (loopEnd c i arg1 harg1 arg2 harg2 (harg1.unread x0)).1)
          (k0_pay668 (loopEnd c i arg1 harg1 arg2 harg2 (harg1.unread x0)).1
            (loopEnd c i arg1 harg1 arg2 harg2 (harg1.unread x0)).2)
          (tailBest (tailScore i arg1 (fullV arg1 (harg1.unread x0)) (harg1.unread x0)))
          (tailAns (k0_pay669 i) (tailScore i arg1 (fullV arg1 (harg1.unread x0)) (harg1.unread x0)))⟩] := by
  sl_kernel_rfl

end Cert.Sampler

end
-- ==== Proof.Reduce.lean ====
/-
What the maximum and the least counter of each row of an array are.
-/
module

public import proofs.«01_k».proof.Proof.Score
public import proofs.«01_k».proof.Proof.Block
public import Idealize.ShloMosaic.PureOps.Reduce
public import Idealize.ShloMosaic.Lib.ValueLayoutCasts
public import Idealize.ShloMosaic.Lib.Pointwise.Select

@[expose] public section

set_option maxRecDepth 16384

noncomputable section

namespace Cert.Sampler

open Idealize.ShloMosaic.ValueIdx
open Idealize.ShloMosaic hiding ix1 ix2
open Idealize.ShloMosaic.Tactic Cert.KernelIdeal Cert.KernelIdeal.Gen

/-- A fold of an operation that returns one of its operands is the initial value or a member. -/
theorem fold_mem {ι α : Type} [DecidableEq ι] (op : α → α → α) [Std.Commutative op] [Std.Associative op]
    (hop : ∀ a b, op a b = a ∨ op a b = b) (b : α) (f : ι → α) (s : Finset ι) :
    s.fold op b f = b ∨ ∃ i ∈ s, s.fold op b f = f i := by
  induction s using Finset.induction_on with
  | empty => left; rfl
  | insert a s ha ih =>
    rw [Finset.fold_insert ha]
    rcases hop (f a) (s.fold op b f) with h | h
    · right; exact ⟨a, Finset.mem_insert_self _ _, h⟩
    · rw [h]
      rcases ih with h | ⟨i, hi, h⟩
      · left; exact h
      · right; exact ⟨i, Finset.mem_insert_of_mem hi, h⟩

/-- A fold of an operation that bounds its operands bounds every member. -/
theorem fold_bound {ι α : Type} [DecidableEq ι] (op : α → α → α) [Std.Commutative op] [Std.Associative op]
    (R : α → α → Prop) (h1 : ∀ a b, R (op a b) a) (h2 : ∀ a b, R (op a b) b) (ht : ∀ a b c, R a b → R b c → R a c)
    (b : α) (f : ι → α) (s : Finset ι) : ∀ i ∈ s, R (s.fold op b f) (f i) := by
  induction s using Finset.induction_on with
  | empty => intro i hi; exact absurd hi (Finset.notMem_empty i)
  | insert a s ha ih =>
    intro i hi
    rw [Finset.fold_insert ha]
    rcases Finset.mem_insert.mp hi with rfl | hi
    · exact h1 _ _
    · exact ht _ _ _ (h2 _ _) (ih i hi)

/-- The signed minimum is one of its operands. -/
theorem minsi_or (x y : BitVec 32) : IntOp.minsi x y = x ∨ IntOp.minsi x y = y := by
  unfold IntOp.minsi; split <;> simp
/-- The signed minimum is at most its first operand. -/
theorem minsi_left (x y : BitVec 32) : (IntOp.minsi x y).toInt ≤ x.toInt := by
  unfold IntOp.minsi
  split
  · exact le_rfl
  · next h => rw [BitVec.slt_iff_toInt_lt] at h; omega
/-- The signed minimum is at most its second operand. -/
theorem minsi_right (x y : BitVec 32) : (IntOp.minsi x y).toInt ≤ y.toInt := by
  unfold IntOp.minsi
  split
  · next h => rw [BitVec.slt_iff_toInt_lt] at h; omega
  · exact le_rfl

/-- Which indices of a row-reduced array belong to a row. -/
theorem drop_iff {n : ℕ} (h : (⟨2, ![16, n]⟩ : Shape).Reduces [1] S16) (ix : (⟨2, ![16, n]⟩ : Shape).Idx) (j : S16.Idx) :
    h.drop ix = j ↔ (ix 0).val = (j 0).val := by
  have e : (h.drop ix 0).val = (ix 0).val := rfl
  constructor
  · intro hh; rw [← e, hh]
  · intro hh
    funext b
    have hb : b = 0 := Subsingleton.elim _ _
    subst hb
    exact Fin.ext (e.trans hh)

/-- A column's index in the vector of rows. -/
theorem col_at {α : Type} (x : S16.Idx → α) (h : S16.ShapeCasts S16x1) (r : Fin 16) :
    shapeCast S16x1 x h (ix2 r 0) = x (ix1 r) := shapeCast_a_a1_apply x h r 0

/-- A column spread over rows, at an index. -/
theorem spread_at {α : Type} {n : ℕ} (x : S16x1.Idx → α) (h : S16x1.Broadcasts (⟨2, ![16, n]⟩ : Shape)) (r : Fin 16)
    (l : Fin n) : broadcastTo (⟨2, ![16, n]⟩ : Shape) x h (ix2 r l) = x (ix2 r 0) := by
  show x _ = x _
  congr 1
  funext a
  match a with
  | ⟨0, _⟩ => rfl
  | ⟨1, _⟩ => rfl

/-- What a row's best score and the least counter attaining it are. -/
structure RowBest {n : ℕ} (m : Fin n → EReal) (idx : Fin n → BitVec 32) (b : EReal) (a : BitVec 32) : Prop where
  le : ∀ l, m l ≤ b
  mem : b = ⊥ ∨ ∃ l, b = m l
  least : ∀ l, m l = b → a.toInt ≤ (idx l).toInt
  attained : a = 2147483647#32 ∨ ∃ l, m l = b ∧ a = idx l

variable {n : ℕ}

/-- The maximum of each row, as a column. -/
def bestCol (h : (⟨2, ![16, n]⟩ : Shape).Reduces [1] S16) (sc : FVec Ideal ⟨2, ![16, n]⟩ .f32) : FVec Ideal S16x1 .f32 :=
  shapeCast S16x1 (multiReduction .maximumf [1] S16 sc 0xFF800000#32 h (.inl rfl) rfl) shapeCasts_S16_S16x1

/-- The least counter of each row where the score is the given column's, as a column. -/
def ansCol (h : (⟨2, ![16, n]⟩ : Shape).Reduces [1] S16) (hb : S16x1.Broadcasts (⟨2, ![16, n]⟩ : Shape))
    (sc : FVec Ideal ⟨2, ![16, n]⟩ .f32) (g : IVec ⟨2, ![16, n]⟩ 32) : IVec S16x1 32 :=
  shapeCast S16x1 (multiReductionI .minsi [1] S16
    (select (cmpf .oeq sc (broadcastTo ⟨2, ![16, n]⟩ (bestCol h sc) hb)) g
      (broadcast ⟨2, ![16, n]⟩ 2147483647#32)) 2147483647#32 h rfl) shapeCasts_S16_S16x1

/-- A row's maximum as a fold. -/
theorem bestCol_fold (h : (⟨2, ![16, n]⟩ : Shape).Reduces [1] S16) (sc : FVec Ideal ⟨2, ![16, n]⟩ .f32) (r : Fin 16) :
    bestCol h sc (ix2 r 0) = (Finset.univ.filter fun i => h.drop i = ix1 r).fold max (⊥ : EReal) sc := by
  unfold bestCol
  rw [col_at]
  have : Std.Commutative (FloatOps.maximumf (F := Ideal) (φ := .f32)) := ⟨fun a b => max_comm (α := EReal) a b⟩
  have : Std.Associative (FloatOps.maximumf (F := Ideal) (φ := .f32)) := ⟨fun a b c => max_assoc (α := EReal) a b c⟩
  refine (multiReduction_maximumf_eq_fold sc _ h _ _ (ix1 r)).trans ?_
  rw [Ideal.ofBits_def, ofBits_ninf]
  rfl

/-- A row's least counter as a fold. -/
theorem ansCol_fold (h : (⟨2, ![16, n]⟩ : Shape).Reduces [1] S16) (hb : S16x1.Broadcasts (⟨2, ![16, n]⟩ : Shape))
    (sc : FVec Ideal ⟨2, ![16, n]⟩ .f32) (g : IVec ⟨2, ![16, n]⟩ 32) (r : Fin 16) :
    ansCol h hb sc g (ix2 r 0) = (Finset.univ.filter fun i => h.drop i = ix1 r).fold IKind.minsi.op 2147483647#32
      (select (cmpf .oeq sc (broadcastTo ⟨2, ![16, n]⟩ (bestCol h sc) hb)) g
      (broadcast ⟨2, ![16, n]⟩ 2147483647#32)) := by
  unfold ansCol
  rw [col_at]
  exact multiReductionI_eq_fold IKind.minsi _ _ h _ (ix1 r)

/-- Selecting where the score is the row's best. -/
theorem pick_at (h : (⟨2, ![16, n]⟩ : Shape).Reduces [1] S16) (hb : S16x1.Broadcasts (⟨2, ![16, n]⟩ : Shape))
    (sc : FVec Ideal ⟨2, ![16, n]⟩ .f32) (g : IVec ⟨2, ![16, n]⟩ 32) (r : Fin 16) (l : Fin n) :
    select (cmpf .oeq sc (broadcastTo ⟨2, ![16, n]⟩ (bestCol h sc) hb)) g
      (broadcast ⟨2, ![16, n]⟩ 2147483647#32) (ix2 r l) =
      if (sc (ix2 r l) : EReal) = bestCol h sc (ix2 r 0) then g (ix2 r l) else 2147483647#32 := by
  show Scalar.select (Ideal.cmp .oeq (sc (ix2 r l)) (broadcastTo ⟨2, ![16, n]⟩ (bestCol h sc) hb (ix2 r l))) _ _ = _
  rw [spread_at]
  unfold Scalar.select
  by_cases hc : (sc (ix2 r l) : EReal) = bestCol h sc (ix2 r 0)
  · rw [if_pos hc]; simp [Ideal.cmp, hc]
  · rw [if_neg hc]; simp [Ideal.cmp, hc]; rfl

/-- The two columns hold each row's best score and the least counter attaining it. -/
theorem rowBest (h : (⟨2, ![16, n]⟩ : Shape).Reduces [1] S16) (hb : S16x1.Broadcasts (⟨2, ![16, n]⟩ : Shape))
    (sc : FVec Ideal ⟨2, ![16, n]⟩ .f32) (g : IVec ⟨2, ![16, n]⟩ 32) (r : Fin 16) :
    RowBest (fun l => sc (ix2 r l)) (fun l => g (ix2 r l)) (bestCol h sc (ix2 r 0)) (ansCol h hb sc g (ix2 r 0)) := by
  have hmem : ∀ l : Fin n, ix2 r l ∈ Finset.univ.filter fun i => h.drop i = ix1 r :=
    fun l => Finset.mem_filter.mpr ⟨Finset.mem_univ _, (drop_iff h _ _).mpr rfl⟩
  have hix : ∀ i ∈ Finset.univ.filter (fun i => h.drop i = ix1 r), ∃ l : Fin n, i = ix2 r l := by
    intro i hi
    have h0 := (drop_iff h _ _).mp (Finset.mem_filter.mp hi).2
    refine ⟨i 1, ?_⟩
    funext a
    match a with
    | ⟨0, _⟩ => exact Fin.ext h0
    | ⟨1, _⟩ => rfl
  have hmo : ∀ a b : EReal, max a b = a ∨ max a b = b := fun a b => max_choice a b
  refine ⟨fun l => ?_, ?_, fun l hl => ?_, ?_⟩
  · rw [bestCol_fold]
    exact fold_bound max (fun a b => b ≤ a) (fun a b => le_max_left a b) (fun a b => le_max_right a b)
      (fun a b c h1 h2 => le_trans h2 h1) _ _ _ _ (hmem l)
  · rw [bestCol_fold]
    rcases fold_mem max hmo (⊥ : EReal) sc (Finset.univ.filter fun i => h.drop i = ix1 r) with hh | ⟨i, hi, hh⟩
    · left; exact hh
    · obtain ⟨l, rfl⟩ := hix i hi
      right; exact ⟨l, hh⟩
  · have := fold_bound IKind.minsi.op (fun a b : BitVec 32 => a.toInt ≤ b.toInt) minsi_left minsi_right
      (fun a b c h1 h2 => le_trans h1 h2) 2147483647#32
      (select (cmpf .oeq sc (broadcastTo ⟨2, ![16, n]⟩ (bestCol h sc) hb)) g
      (broadcast ⟨2, ![16, n]⟩ 2147483647#32)) _ _ (hmem l)
    rw [← ansCol_fold, pick_at, if_pos hl] at this
    exact this
  · rcases fold_mem IKind.minsi.op minsi_or 2147483647#32
      (select (cmpf .oeq sc (broadcastTo ⟨2, ![16, n]⟩ (bestCol h sc) hb)) g
      (broadcast ⟨2, ![16, n]⟩ 2147483647#32)) (Finset.univ.filter fun i => h.drop i = ix1 r) with hh | ⟨i, hi, hh⟩
    · left; rw [ansCol_fold]; exact hh
    · obtain ⟨l, rfl⟩ := hix i hi
      rw [← ansCol_fold, pick_at] at hh
      by_cases hc : (sc (ix2 r l) : EReal) = bestCol h sc (ix2 r 0)
      · rw [if_pos hc] at hh; right; exact ⟨l, hc, hh⟩
      · rw [if_neg hc] at hh; left; exact hh

end Cert.Sampler

end
-- ==== Proof.Winner.lean ====
/-
From the running maxima of the lanes to the first column of a row with the greatest score.
-/
module

public import proofs.«01_k».proof.Proof.Reduce

@[expose] public section

set_option maxRecDepth 16384

noncomputable section

namespace Cert.Sampler

open Idealize.ShloMosaic

/-- A counter read as a signed number. -/
theorem ctrS_toInt {R j : ℕ} (hR : R < 512) (hj : j < 100000) : (ctrS R j).toInt = R * 100000 + j + 42 := by
  unfold ctrS
  rw [BitVec.toInt_ofNat', Int.bmod_eq_of_le] <;> omega

/-- Taking the row's base and the seed from a counter leaves the column. -/
theorem ctrS_sub (R j : ℕ) : ctrS R j - BitVec.ofNat 32 (R * 100000) - 42#32 = BitVec.ofNat 32 j := by
  unfold ctrS
  rw [BitVec.ofNat_add, BitVec.ofNat_add]
  generalize BitVec.ofNat 32 (R * 100000) = a
  generalize BitVec.ofNat 32 j = b
  show a + b + 42#32 - a - 42#32 = b
  bv_omega

/-- A lane's running maximum over its first `n` columns, and the counter of the first column that attains it. -/
structure Lane (s : ℕ → EReal) (g : ℕ → BitVec 32) (l n : ℕ) (m : EReal) (idx : BitVec 32) : Prop where
  le : ∀ c < n, s (512 * c + l) ≤ m
  src : (m = ⊥ ∧ idx = 2147483647#32) ∨
    ∃ c < n, m = s (512 * c + l) ∧ ⊥ < m ∧ idx = g (512 * c + l) ∧ ∀ c' < c, s (512 * c' + l) < m

/-- A lane before any column. -/
theorem Lane.zero (s : ℕ → EReal) (g : ℕ → BitVec 32) (l : ℕ) : Lane s g l 0 ⊥ 2147483647#32 :=
  ⟨fun c h => absurd h (Nat.not_lt_zero c), .inl ⟨rfl, rfl⟩⟩

/-- One more column. -/
theorem Lane.succ {s : ℕ → EReal} {g : ℕ → BitVec 32} {l n : ℕ} {m : EReal} {idx : BitVec 32} (h : Lane s g l n m idx) :
    Lane s g l (n + 1) (if m < s (512 * n + l) then s (512 * n + l) else m)
      (if m < s (512 * n + l) then g (512 * n + l) else idx) := by
  by_cases hc : m < s (512 * n + l)
  · rw [if_pos hc, if_pos hc]
    refine ⟨fun c h' => ?_, .inr ⟨n, Nat.lt_succ_self n, rfl, lt_of_le_of_lt bot_le hc, rfl, fun c' h' =>
      lt_of_le_of_lt (h.le c' h') hc⟩⟩
    rcases Nat.lt_succ_iff_lt_or_eq.mp h' with h' | rfl
    · exact le_trans (h.le c h') hc.le
    · exact le_rfl
  · rw [if_neg hc, if_neg hc]
    refine ⟨fun c h' => ?_, ?_⟩
    · rcases Nat.lt_succ_iff_lt_or_eq.mp h' with h' | rfl
      · exact h.le c h'
      · exact not_lt.mp hc
    · rcases h.src with h' | ⟨c, h1, h2⟩
      · exact .inl h'
      · exact .inr ⟨c, Nat.lt_succ_of_lt h1, h2⟩

/-- The first column of row `R` with the greatest score. -/
structure First (s : ℕ → EReal) (J : ℕ) : Prop where
  lt : J < 100000
  le : ∀ j < 100000, s j ≤ s J
  first : ∀ j < J, s j < s J
  pos : ⊥ < s J

variable {s : ℕ → EReal} {R J : ℕ}

/-- What the lanes' maxima give when the winner is one of their columns. -/
theorem loop_hit (hR : R < 512) (hJ : First s J) (hlt : J < 99840) {m : Fin 512 → EReal} {idx : Fin 512 → BitVec 32}
    (hl : ∀ l : Fin 512, Lane s (ctrS R) l 195 (m l) (idx l)) {b : EReal} {a : BitVec 32} (hb : RowBest m idx b a) :
    b = s J ∧ a = ctrS R J := by
  have hle : ∀ l, m l ≤ s J := by
    intro l
    rcases (hl l).src with ⟨h, _⟩ | ⟨c, hc, h, _⟩
    · rw [h]; exact bot_le
    · rw [h]; exact hJ.le _ (by have := l.isLt; omega)
  have e : 512 * (J / 512) + J % 512 = J := by omega
  let l0 : Fin 512 := ⟨J % 512, by omega⟩
  have hm0 : m l0 = s J := by
    refine le_antisymm (hle l0) ?_
    have := (hl l0).le (J / 512) (by omega)
    rwa [show 512 * (J / 512) + l0.val = J from e] at this
  have hbJ : b = s J := by
    refine le_antisymm ?_ (hm0 ▸ hb.le l0)
    rcases hb.mem with h | ⟨l, h⟩
    · rw [h]; exact bot_le
    · rw [h]; exact hle l
  refine ⟨hbJ, ?_⟩
  -- every attaining lane holds the counter of a column from `J` on
  have hat : ∀ l, m l = s J → ∃ j, J ≤ j ∧ j < 99840 ∧ idx l = ctrS R j ∧ (∀ c', 512 * c' + l.val < j → s (512 * c' + l) < s J) := by
    intro l h
    rcases (hl l).src with ⟨h', _⟩ | ⟨c, hc, h1, _, h2, h3⟩
    · rw [h] at h'; exact absurd h' hJ.pos.ne'
    · refine ⟨512 * c + l, ?_, by have := l.isLt; omega, h2, fun c' hc' => h ▸ h3 c' (by omega)⟩
      by_contra hlt'
      have := hJ.first _ (not_le.mp hlt')
      rw [← h1, h] at this
      exact lt_irrefl _ this
  obtain ⟨j0, hj0, hj0', hi0, hf0⟩ := hat l0 hm0
  have hj0J : j0 = J := by
    by_contra hne
    have h := hf0 (J / 512) (by show 512 * (J / 512) + J % 512 < j0; omega)
    rw [show 512 * (J / 512) + l0.val = J from e] at h
    exact lt_irrefl _ h
  subst hj0J
  have hup := hb.least l0 (hm0.trans hbJ.symm)
  have hlo : (ctrS R j0).toInt ≤ a.toInt := by
    rw [ctrS_toInt hR (by omega)]
    rcases hb.attained with h | ⟨l, h1, h2⟩
    · rw [h]; show _ ≤ (2147483647 : ℤ); omega
    · obtain ⟨j, hj, hj', hi, _⟩ := hat l (h1.trans hbJ)
      rw [h2, hi, ctrS_toInt hR (by omega)]; omega
  rw [hi0] at hup
  exact BitVec.eq_of_toInt_eq (le_antisymm hup hlo)

/-- What they give when the winner is in the tail. -/
theorem loop_miss (hJ : First s J) (hlt : 99840 ≤ J) {m : Fin 512 → EReal} {idx : Fin 512 → BitVec 32}
    (hl : ∀ l : Fin 512, Lane s (ctrS R) l 195 (m l) (idx l)) {b : EReal} {a : BitVec 32} (hb : RowBest m idx b a) :
    b < s J := by
  rcases hb.mem with h | ⟨l, h⟩
  · rw [h]; exact hJ.pos
  · rw [h]
    rcases (hl l).src with ⟨h', _⟩ | ⟨c, hc, h1, _⟩
    · rw [h']; exact hJ.pos
    · rw [h1]; exact hJ.first _ (by have := l.isLt; omega)

/-- What the tail's scores give when the winner is in the tail. -/
theorem tail_hit (hR : R < 512) (hJ : First s J) (hlt : 99840 ≤ J) {b : EReal} {a : BitVec 32}
    (hb : RowBest (fun l : Fin 160 => s (99840 + l)) (fun l : Fin 160 => ctrS R (99840 + l)) b a) :
    b = s J ∧ a = ctrS R J := by
  have hJl := hJ.lt
  let l0 : Fin 160 := ⟨J - 99840, by omega⟩
  have e : 99840 + l0.val = J := by show 99840 + (J - 99840) = J; omega
  have hbJ : b = s J := by
    refine le_antisymm ?_ ?_
    · rcases hb.mem with h | ⟨l, h⟩
      · rw [h]; exact bot_le
      · rw [h]; exact hJ.le _ (by have := l.isLt; omega)
    · have := hb.le l0; rwa [e] at this
  refine ⟨hbJ, ?_⟩
  have hup := hb.least l0 (by show s (99840 + l0.val) = b; rw [e, hbJ])
  simp only [e] at hup
  have hlo : (ctrS R J).toInt ≤ a.toInt := by
    rw [ctrS_toInt hR hJ.lt]
    rcases hb.attained with h | ⟨l, h1, h2⟩
    · rw [h]; show _ ≤ (2147483647 : ℤ); omega
    · have hl := l.isLt
      rw [h2, ctrS_toInt hR (by omega)]
      have : J ≤ 99840 + l.val := by
        by_contra h
        have := hJ.first _ (not_le.mp h)
        simp only [hbJ] at h1
        rw [h1] at this
        exact lt_irrefl _ this
      omega
  exact BitVec.eq_of_toInt_eq (le_antisymm hup hlo)

/-- What they give when the winner is in the loop. -/
theorem tail_miss (hR : R < 512) (hJ : First s J) (hlt : J < 99840) {b : EReal} {a : BitVec 32}
    (hb : RowBest (fun l : Fin 160 => s (99840 + l)) (fun l : Fin 160 => ctrS R (99840 + l)) b a) :
    b ≤ s J ∧ (ctrS R J).toInt < a.toInt := by
  constructor
  · rcases hb.mem with h | ⟨l, h⟩
    · rw [h]; exact bot_le
    · rw [h]; exact hJ.le _ (by have := l.isLt; omega)
  · rw [ctrS_toInt hR hJ.lt]
    rcases hb.attained with h | ⟨l, h1, h2⟩
    · rw [h]; show _ < (2147483647 : ℤ); omega
    · have hl := l.isLt
      rw [h2, ctrS_toInt hR (by omega)]; omega

/-- The comparison "greater" as a bit. -/
theorem ogt_at (x y : EReal) : Ideal.cmp .ogt x y = if y < x then 1#1 else 0#1 := by
  by_cases h : y < x <;> simp [Ideal.cmp, h]
/-- The comparison "equal" as a bit. -/
theorem oeq_at (x y : EReal) : Ideal.cmp .oeq x y = if x = y then 1#1 else 0#1 := by
  by_cases h : x = y <;> simp [Ideal.cmp, h]

/-- Merging the two winners of a row. -/
theorem merge_at (hR : R < 512) (hJ : First s J) {m : Fin 512 → EReal} {idx : Fin 512 → BitVec 32}
    (hl : ∀ l : Fin 512, Lane s (ctrS R) l 195 (m l) (idx l)) {b tb : EReal} {a ta : BitVec 32} (hb : RowBest m idx b a)
    (ht : RowBest (fun l : Fin 160 => s (99840 + l)) (fun l : Fin 160 => ctrS R (99840 + l)) tb ta) :
    Scalar.select (Ideal.cmp .ogt tb b) ta (Scalar.select (Ideal.cmp .oeq tb b) (IntOp.minsi a ta) a)
      - BitVec.ofNat 32 (R * 100000) - 42#32 = BitVec.ofNat 32 J := by
  rw [← ctrS_sub R J]
  congr 2
  rw [ogt_at, oeq_at]
  by_cases hlt : J < 99840
  · obtain ⟨rfl, rfl⟩ := loop_hit hR hJ hlt hl hb
    obtain ⟨h1, h2⟩ := tail_miss hR hJ hlt ht
    rw [if_neg (not_lt.mpr h1)]
    have : IntOp.minsi (ctrS R J) ta = ctrS R J := by
      unfold IntOp.minsi; rw [if_pos]; rw [BitVec.slt_iff_toInt_lt]; exact h2
    rw [this]
    show Scalar.select _ (ctrS R J) (ctrS R J) = ctrS R J
    exact ite_self _
  · have h := loop_miss hJ (not_lt.mp hlt) hl hb
    obtain ⟨rfl, rfl⟩ := tail_hit hR hJ (not_lt.mp hlt) ht
    rw [if_pos h]
    rfl

end Cert.Sampler

end
-- ==== Proof.ArgMax.lean ====
/-
What the precondition says of a row: one column's score is well above the others', and the arg-max is that column.
-/
module

public import proofs.«01_k».proof.Proof.Perturb
public import proofs.«01_k».proof.Proof.Winner

@[expose] public section

set_option maxRecDepth 16384

noncomputable section

namespace Cert.Sampler

open Idealize.ShloMosaic.ValueIdx
open Idealize.ShloMosaic hiding ix1 ix2
open Idealize.ShloMosaic.Tactic Cert.Pre_clear_winner

/-- No extended real compares unequal to itself. -/
theorem une_self (x : EReal) : Ideal.cmp .une x x = 0#1 := by simp [Ideal.cmp]

/-- The arg-max keeps one of its two pairs, the one with the greater score. -/
theorem reducer_step (a b : EReal × BitVec 32) :
    a.1 ≤ (reducer_argmax_f32_i32 (F := Ideal) a b).1 ∧ b.1 ≤ (reducer_argmax_f32_i32 (F := Ideal) a b).1 ∧
      (reducer_argmax_f32_i32 (F := Ideal) a b = a ∨ reducer_argmax_f32_i32 (F := Ideal) a b = b) := by
  obtain ⟨v, i⟩ := a
  obtain ⟨x, j⟩ := b
  have key : ∃ s : BitVec 1, reducer_argmax_f32_i32 (F := Ideal) (v, i) (x, j) =
      (Scalar.select (IntOp.ori (Ideal.cmp .ogt v x) (Ideal.cmp .une v v)) v x,
       Scalar.select (IntOp.ori (IntOp.ori (Ideal.cmp .ogt v x) (Ideal.cmp .une v v))
        (IntOp.andi (Ideal.cmp .oeq v x) s)) i j) := ⟨_, rfl⟩
  obtain ⟨s, key⟩ := key
  rw [key, une_self, ogt_at, oeq_at]
  rcases lt_trichotomy v x with h | h | h
  · rw [if_neg (not_lt.mpr h.le), if_neg h.ne]
    have e1 : IntOp.ori 0#1 0#1 = 0#1 := by decide
    have e2 : ∀ s : BitVec 1, IntOp.ori (0#1) (IntOp.andi 0#1 s) = 0#1 := by decide
    rw [e1, e2]
    exact ⟨h.le, le_rfl, .inr rfl⟩
  · subst h
    rw [if_neg (lt_irrefl _), if_pos rfl]
    have e1 : IntOp.ori 0#1 0#1 = 0#1 := by decide
    have e2 : ∀ s : BitVec 1, IntOp.ori (0#1) (IntOp.andi 1#1 s) = s := by decide
    rw [e1, e2]
    refine ⟨le_rfl, le_rfl, ?_⟩
    show (v, Scalar.select s i j) = _ ∨ (v, Scalar.select s i j) = _
    unfold Scalar.select
    split
    · exact .inl rfl
    · exact .inr rfl
  · rw [if_pos h, if_neg h.ne']
    have e1 : IntOp.ori 1#1 0#1 = 1#1 := by decide
    have e2 : ∀ s : BitVec 1, IntOp.ori (1#1) (IntOp.andi 0#1 s) = 1#1 := by decide
    rw [e1, e2]
    exact ⟨le_rfl, h.le, .inl rfl⟩

/-- Folding it keeps the initial pair or one of the list's, with a score no less than any. -/
theorem reducer_fold (L : List (EReal × BitVec 32)) : ∀ a : EReal × BitVec 32,
    a.1 ≤ (L.foldl (reducer_argmax_f32_i32 (F := Ideal)) a).1 ∧
    (∀ q ∈ L, q.1 ≤ (L.foldl (reducer_argmax_f32_i32 (F := Ideal)) a).1) ∧
      (L.foldl (reducer_argmax_f32_i32 (F := Ideal)) a = a ∨ L.foldl (reducer_argmax_f32_i32 (F := Ideal)) a ∈ L) := by
  induction L with
  | nil => intro a; exact ⟨le_rfl, fun q hq => absurd hq (List.not_mem_nil), .inl rfl⟩
  | cons b L ih =>
    intro a
    obtain ⟨h1, h2, h3⟩ := ih (reducer_argmax_f32_i32 (F := Ideal) a b)
    obtain ⟨s1, s2, s3⟩ := reducer_step a b
    rw [List.foldl_cons]
    refine ⟨le_trans s1 h1, ?_, ?_⟩
    · intro q hq
      rcases List.mem_cons.mp hq with rfl | hq
      · exact le_trans s2 h1
      · exact h2 q hq
    · rcases h3 with h | h
      · rw [h]
        rcases s3 with h' | h'
        · left; exact h'
        · right; rw [h']; exact List.mem_cons_self
      · right; exact List.mem_cons_of_mem _ h

/-- Which indices of the reduced array belong to a row. -/
theorem hdrop_iff (h : S512x100000.ReducesTo [1] S512) (ix : S512x100000.Idx) (j : S512.Idx) :
    h.drop ix = j ↔ (ix 0).val = (j 0).val := by
  have e : (h.drop ix 0).val = (ix 0).val := rfl
  constructor
  · intro hh; rw [← e, hh]
  · intro hh
    funext b
    have hb : b = 0 := Subsingleton.elim _ _
    subst hb
    exact Fin.ext (e.trans hh)

/-- The members of a fiber. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ ix : s.Idx, h.drop ix = j ∧ (x ix, y ix) = p := by
  unfold Host.argReduceFiber
  constructor
  · intro hp
    obtain ⟨n, hn, hp⟩ := List.mem_map.mp hp
    exact ⟨s.rowMajor.symm n, of_decide_eq_true (List.mem_filter.mp hn).2, hp⟩
  · rintro ⟨ix, hd, hp⟩
    refine List.mem_map.mpr ⟨s.rowMajor ix, List.mem_filter.mpr ⟨List.mem_finRange _, ?_⟩, ?_⟩
    · rw [Equiv.symm_apply_apply]
      exact decide_eq_true hd
    · rw [Equiv.symm_apply_apply]; exact hp

/-- The fold of pairs whose second components are the reference's arg-max. -/
def pairV {F : FTy → Type} [FloatOps F] (sc : FVec F S512x100000 .f32) : S512.Idx → F .f32 × BitVec 32 :=
  Host.argReduce (reducer_argmax_f32_i32 (F := F)) sc (iotaInDim S512x100000 32 1)
    (constant S_ .f32 0xFF800000#32) (constantI S_ 32 0#32) Facts.reducesTo_S512x100000_S512_d1 Facts.h_S_

/-- The reference's arg-max is the second component of that fold. -/
theorem argmax_unf {F : FTy → Type} [FloatOps F] (sc : FVec F S512x100000 .f32) :
    fn_argmax (F := F) sc = fun j => (pairV sc j).2 := by
  unfold fn_argmax
  dsimp only
  unfold pairV
  generalize reducer_argmax_f32_i32 (F := F) = f
  generalize iotaInDim S512x100000 32 1 = y
  generalize constant (F := F) S_ .f32 0xFF800000#32 = u
  generalize constantI S_ 32 0#32 = w
  with_reducible rfl

/-- The pair that the arg-max starts from. -/
theorem init_unf {F : FTy → Type} [FloatOps F] (i : S_.Idx) :
    (constant (F := F) S_ .f32 0xFF800000#32 i, constantI S_ 32 0#32 i) = (FloatOps.ofBits .f32 0xFF800000#32, 0#32) := rfl

/-- The arg-max of a row as a fold. -/
theorem argmax_fold (sc : FVec Ideal S512x100000 .f32) (j : S512.Idx) :
    fn_argmax (F := Ideal) sc j =
      ((Host.argReduceFiber sc (iotaInDim S512x100000 32 1) Facts.reducesTo_S512x100000_S512_d1 j).foldl
        (reducer_argmax_f32_i32 (F := Ideal)) ((⊥ : EReal), 0#32)).2 := by
  refine (congrFun (argmax_unf sc) j).trans ?_
  beta_reduce
  unfold pairV
  rw [Ideal.argReduce_eq_reduce2, Host.reduce2_eq_foldl_fiber, init_unf, Ideal.ofBits_def, ofBits_ninf]

/-- The arg-max of a row with an entry above −∞ is a column with the row's greatest score. -/
theorem argmax_row (sc : FVec Ideal S512x100000 .f32) (R : Fin 512) (h : ∃ j : Fin 100000, (⊥ : EReal) < sc (ix2 R j)) :
    ∃ J : Fin 100000, fn_argmax (F := Ideal) sc (ix1 R) = BitVec.ofNat 32 J.val ∧
      ∀ j : Fin 100000, (sc (ix2 R j) : EReal) ≤ sc (ix2 R J) := by
  have e := argmax_fold sc (ix1 R)
  generalize hL : Host.argReduceFiber sc (iotaInDim S512x100000 32 1) Facts.reducesTo_S512x100000_S512_d1 (ix1 R) = L at e
  have hm : ∀ p, p ∈ L ↔ _ := fun p => hL ▸ mem_fiber sc (iotaInDim S512x100000 32 1) _ (ix1 R) p
  obtain ⟨-, h2, h3⟩ := reducer_fold L (⊥, 0#32)
  generalize List.foldl (reducer_argmax_f32_i32 (F := Ideal)) ((⊥ : EReal), 0#32) L = p at e h2 h3
  have hle : ∀ j : Fin 100000, (sc (ix2 R j) : EReal) ≤ p.1 := fun j =>
    h2 (sc (ix2 R j), iotaInDim S512x100000 32 1 (ix2 R j)) ((hm _).mpr ⟨ix2 R j, (hdrop_iff _ _ _).mpr rfl, rfl⟩)
  rcases h3 with h3 | h3
  · obtain ⟨j, hj⟩ := h
    have := lt_of_lt_of_le hj (hle j)
    rw [h3] at this
    exact absurd this (lt_irrefl _)
  · obtain ⟨ix, hd, hp⟩ := (hm p).mp h3
    have h0 := (hdrop_iff _ _ _).mp hd
    have hix : ix = ix2 R (ix 1) := by
      funext a
      match a with
      | ⟨0, _⟩ => exact Fin.ext h0
      | ⟨1, _⟩ => rfl
    generalize ix 1 = J at hix
    rw [hix] at hp
    refine ⟨J, ?_, ?_⟩
    · rw [e, ← hp]; rfl
    · intro j
      have := hle j
      rw [← hp] at this
      exact this

end Cert.Sampler

end
-- ==== Proof.PreVal.lean ====
/-
The precondition and the reference's scores, read at one row and column.
-/
module

public import proofs.«01_k».proof.Proof.ArgMax

@[expose] public section

set_option maxRecDepth 16384

noncomputable section

namespace Cert.Sampler

open Idealize.ShloMosaic.ValueIdx
open Idealize.ShloMosaic hiding ix1 ix2
open Idealize.ShloMosaic.Tactic Cert.Pre_clear_winner

/-- Each row's greatest score, as the precondition computes it. -/
def rowMaxV {F : FTy → Type} [FloatOps F] (sc : FVec F S512x100000 .f32) : FVec F S512 .f32 :=
  Host.reduce FloatOps.maximumf sc (constant S_ .f32 0xFF800000#32) Facts.reducesTo_S512x100000_S512_d1 Facts.h_S_

/-- The precondition at a row and a column, over any float values. -/
theorem part1_at {F : FTy → Type} [FloatOps F] (q n sc : FVec F S512x100000 .f32) (w : IVec S512 32)
    (R : Fin 512) (j : Fin 100000) :
    fn_part1 (F := F) q n sc (broadcastInDim S512x1 ![0] Facts.bcast_S512_S512x1_0 w) (ix2 R j) =
      Scalar.select (IntOp.cmpi .eq (BitVec.ofNat 32 j.val) (w (ix1 R)))
        (IntOp.andi (FloatOps.cmpf .oge (q (ix2 R j)) (FloatOps.ofBits .f32 0x2B8CBCCC#32))
          (FloatOps.cmpf .ogt (n (ix2 R j)) (FloatOps.ofBits .f32 0xC0800000#32)))
        (FloatOps.cmpf .olt (sc (ix2 R j))
          (FloatOps.subf (rowMaxV sc (ix1 R)) (FloatOps.ofBits .f32 0x3727C5AC#32))) := by
  unfold fn_part1 fn_where
  dsimp only
  unfold rowMaxV
  generalize Host.reduce FloatOps.maximumf sc (constant S_ .f32 0xFF800000#32)
    Facts.reducesTo_S512x100000_S512_d1 Facts.h_S_ = M
  have hb : ∀ {α : Type} (x : S512.Idx → α),
      broadcastInDim S512x100000 ![0, 1] Facts.bcast_S512x1_S512x100000_0_1
        (broadcastInDim S512x1 ![0] Facts.bcast_S512_S512x1_0 x) (ix2 R j) = x (ix1 R) := by
    intro α x
    refine congrArg x ?_
    funext a
    match a with
    | ⟨0, _⟩ => rfl
  have hs : broadcastInDim S512x100000 ![0, 1] Facts.bcast_S512x1_S512x100000_0_1
      (subf (broadcastInDim S512x1 ![0] Facts.bcast_S512_S512x1_0 M)
        (broadcastInDim S512x1 ![] Facts.bcast_S_S512x1 (constant (F := F) S_ .f32 0x3727C5AC#32))) (ix2 R j) =
      FloatOps.subf (M (ix1 R)) (FloatOps.ofBits .f32 0x3727C5AC#32) := by
    refine congrArg (fun a => FloatOps.subf (M a) (FloatOps.ofBits .f32 0x3727C5AC#32)) ?_
    funext a
    match a with
    | ⟨0, _⟩ => rfl
  rw [← hs, ← hb w]
  rfl

/-- The row's greatest score is no less than any score, and is one of them or −∞. -/
theorem rowMax_spec (sc : FVec Ideal S512x100000 .f32) (R : Fin 512) :
    (∀ j : Fin 100000, (sc (ix2 R j) : EReal) ≤ rowMaxV (F := Ideal) sc (ix1 R)) ∧
      (rowMaxV (F := Ideal) sc (ix1 R) = (⊥ : EReal) ∨
        ∃ j : Fin 100000, rowMaxV (F := Ideal) sc (ix1 R) = sc (ix2 R j)) := by
  have e : rowMaxV (F := Ideal) sc (ix1 R) =
      (Finset.univ.filter fun i => Facts.reducesTo_S512x100000_S512_d1.drop i = ix1 R).fold max (⊥ : EReal) sc := by
    rw [← ofBits_ninf]
    exact Host.reduce_eq_fold (α := EReal) max sc _ _ _ _
  rw [e]
  constructor
  · intro j
    exact fold_bound max (fun a b => b ≤ a) (fun a b => le_max_left a b) (fun a b => le_max_right a b)
      (fun a b c h1 h2 => le_trans h2 h1) _ _ _ _
      (Finset.mem_filter.mpr ⟨Finset.mem_univ _, (hdrop_iff _ (ix2 R j) _).mpr rfl⟩)
  · rcases fold_mem max (fun a b => max_choice a b) (⊥ : EReal) sc
      (Finset.univ.filter fun i => Facts.reducesTo_S512x100000_S512_d1.drop i = ix1 R) with hh | ⟨i, hi, hh⟩
    · left; exact hh
    · have h0 := (hdrop_iff _ _ _).mp (Finset.mem_filter.mp hi).2
      right
      refine ⟨i 1, hh.trans (congrArg sc ?_)⟩
      funext a
      match a with
      | ⟨0, _⟩ => exact Fin.ext h0
      | ⟨1, _⟩ => rfl

/-- A comparison "at least" that holds. -/
theorem oge_one {x y : EReal} (h : Ideal.cmp .oge x y = 1#1) : y ≤ x := by
  by_contra hc
  simp [Ideal.cmp, hc] at h
/-- A comparison "greater" that holds. -/
theorem ogt_one {x y : EReal} (h : Ideal.cmp .ogt x y = 1#1) : y < x := by
  by_contra hc
  simp [Ideal.cmp, hc] at h
/-- A comparison "less" that holds. -/
theorem olt_one {x y : EReal} (h : Ideal.cmp .olt x y = 1#1) : x < y := by
  by_contra hc
  simp [Ideal.cmp, hc] at h
/-- Both bits of a conjunction that holds. -/
theorem andi_one {a b : BitVec 1} (h : IntOp.andi a b = 1#1) : a = 1#1 ∧ b = 1#1 := by
  revert h; unfold IntOp.andi; revert a b; decide

/-- What the precondition says of a row: its arg-max is a column `J` whose probability and noise exceed
    their bounds, and every other column's score is below `J`'s by more than the margin. -/
theorem pre_row (q n sc : FVec Ideal S512x100000 .f32)
    (h : fn_part1 (F := Ideal) q n sc (broadcastInDim S512x1 ![0] Facts.bcast_S512_S512x1_0 (fn_argmax (F := Ideal) sc)) =
      fun _ => 1#1) (R : Fin 512) :
    ∃ J : Fin 100000, fn_argmax (F := Ideal) sc (ix1 R) = BitVec.ofNat 32 J.val ∧
      qminS ≤ q (ix2 R J) ∧ nminS < n (ix2 R J) ∧
      ∀ j : Fin 100000, j ≠ J → (sc (ix2 R j) : EReal) < sc (ix2 R J) - gapS := by
  have hp := fun j => (part1_at (F := Ideal) q n sc (fn_argmax (F := Ideal) sc) R j).symm.trans (congrFun h (ix2 R j))
  obtain ⟨hM, hM'⟩ := rowMax_spec sc R
  have hJ := argmax_row sc R
  generalize rowMaxV (F := Ideal) sc (ix1 R) = M at hp hM hM'
  generalize fn_argmax (F := Ideal) sc (ix1 R) = w at hp hJ
  have hne : ∀ j : Fin 100000, BitVec.ofNat 32 j.val ≠ w → (sc (ix2 R j) : EReal) < M - gapS := by
    intro j hj
    have := hp j
    rw [show IntOp.cmpi .eq (BitVec.ofNat 32 j.val) w = 0#1 from by
      unfold IntOp.cmpi; simp only; rw [beq_false_of_ne hj]; rfl] at this
    exact olt_one this
  have heq : ∀ j : Fin 100000, BitVec.ofNat 32 j.val = w → qminS ≤ q (ix2 R j) ∧ nminS < n (ix2 R j) := by
    intro j hj
    have := hp j
    rw [show IntOp.cmpi .eq (BitVec.ofNat 32 j.val) w = 1#1 from by
      unfold IntOp.cmpi; simp only; rw [hj, beq_self_eq_true]; rfl] at this
    obtain ⟨h1, h2⟩ := andi_one this
    exact ⟨oge_one h1, ogt_one h2⟩
  have hinj : ∀ a b : Fin 100000, BitVec.ofNat 32 a.val = BitVec.ofNat 32 b.val → a = b := by
    intro a b hab
    have := congrArg BitVec.toNat hab
    simp only [BitVec.toNat_ofNat] at this
    apply Fin.ext
    omega
  have hex : ∃ j : Fin 100000, (⊥ : EReal) < sc (ix2 R j) := by
    by_contra hc
    push Not at hc
    have hb : M = ⊥ := by
      rcases hM' with h | ⟨j, h⟩
      · exact h
      · rw [h]; exact le_bot_iff.mp (hc j)
    have hj : ∃ j : Fin 100000, BitVec.ofNat 32 j.val ≠ w := by
      by_contra hc2
      push Not at hc2
      have := hinj 0 1 ((hc2 0).trans (hc2 1).symm)
      exact absurd (congrArg Fin.val this) (by decide)
    obtain ⟨j, hj⟩ := hj
    have := hne j hj
    obtain ⟨e, he, -⟩ := gapS_eq
    rw [hb, he, EReal.bot_sub] at this
    exact absurd this not_lt_bot
  obtain ⟨J, hw, hle⟩ := hJ hex
  have hMJ : M = sc (ix2 R J) := by
    refine le_antisymm ?_ (hM J)
    rcases hM' with h | ⟨j, h⟩
    · rw [h]; exact bot_le
    · rw [h]; exact hle j
  obtain ⟨h1, h2⟩ := heq J hw.symm
  refine ⟨J, hw, h1, h2, fun j hj => ?_⟩
  rw [← hMJ]
  exact hne j fun hc => hj (hinj _ _ (hc.trans hw))

end Cert.Sampler

end
-- ==== Proof.BlockVal.lean ====
/-
The column that one grid point stores holds each row's first column with the greatest score.
-/
module

public import proofs.«01_k».proof.Proof.Winner
public import Idealize.ShloMosaic.Lib.Pipeline.Value

@[expose] public section

set_option maxRecDepth 16384

noncomputable section

namespace Cert.Sampler

open Idealize.ShloMosaic.ValueIdx
open Idealize.ShloMosaic hiding ix1 ix2
open Idealize.ShloMosaic.Tactic Cert.KernelIdeal Cert.KernelIdeal.Gen

variable {F : FTy → Type} [FloatOps F]

/-- The whole window is the block. -/
theorem fullV_eq (arg1 : Memref sig .tc .vmem S16x100000 .f32) (harg1 : arg1.IsWhole) (x0 : Vec F S16x100000 .f32) :
    fullV arg1 (harg1.unread x0) = x0 := by
  unfold fullV
  have hz : (![0, 0] : Fin 2 → ℕ) = fun _ => 0 := by funext a; match a with | ⟨0, _⟩ => rfl | ⟨1, _⟩ => rfl
  rw [View.readAt_eq_ld, harg1.read_unread]
  exact View.ld_unit_zero (S := S16x100000) hz _ _

/-- A part of a row, at an index. -/
theorem part_at {α : Type} (w : ℕ) (x0 : S16x100000.Idx → α) (o : Fin 2 → ℕ) (h : S16x100000.Slices o ⟨2, ![16, w]⟩)
    (off : ℕ) (ho : o = ![0, off]) (hw : off + w ≤ 100000) (r : Fin 16) (l : Fin w) :
    extractStridedSlice ⟨2, ![16, w]⟩ o x0 h (ix2 r l) = x0 (ix2 r ⟨off + l, by omega⟩) := by
  subst ho
  show x0 _ = x0 _
  congr 1
  funext a
  apply Fin.ext
  match a with
  | ⟨0, _⟩ => exact Nat.zero_add _
  | ⟨1, _⟩ => rfl

/-- The loop makes thirteen trips. -/
theorem trips_eq : k0_t1_loop.trips = 13 := by decide +kernel

/-- Every chunk of the loop lies before the tail. -/
theorem chunk_lt (k : Fin k0_t1_loop.trips) (j : Fin 15) : 7680 * k.val + 512 * j.val + 512 ≤ 99840 := by
  have h1 : k.val < 13 := trips_eq ▸ k.isLt
  have h2 := j.isLt
  omega

/-- A chunk's probabilities. -/
theorem chunkIn_at (arg1 : Memref sig .tc .vmem S16x100000 .f32) (harg1 : arg1.IsWhole) (x0 : Vec F S16x100000 .f32)
    (k : Fin k0_t1_loop.trips) (j : Fin 15) (r : Fin 16) (l : Fin 512) :
    chunkIn arg1 (harg1.unread x0) k j (ix2 r l) =
      x0 (ix2 r ⟨7680 * k.val + 512 * j.val + l, by have := chunk_lt k j; omega⟩) := by
  unfold chunkIn
  refine (congrFun (shapeCast_self _ _) _).trans ?_
  rw [View.readAt_eq_ld, harg1.read_unread]
  refine (congrFun (View.ld_unit (S := S16x100000) (Val := Elt F) (e := .f32) x0 _ _ _) _).trans ?_
  exact part_at 512 x0 _ ⟨rfl, k0_off1_inb k j⟩ (7680 * k.val + 512 * j.val) (k0_off1_eq k j)
    (by have := chunk_lt k j; omega) r l

/-- The tail's probabilities. -/
theorem tailIn_at (arg1 : Memref sig .tc .vmem S16x100000 .f32) (harg1 : arg1.IsWhole) (x0 : Vec F S16x100000 .f32)
    (r : Fin 16) (l : Fin 160) :
    tailIn arg1 (harg1.unread x0) (ix2 r l) = x0 (ix2 r ⟨99840 + l, by omega⟩) := by
  unfold tailIn
  refine (congrFun (shapeCast_self _ _) _).trans ?_
  rw [View.readAt_eq_ld, harg1.read_unread]
  refine (congrFun (View.ld_unit (S := S16x100000) (Val := Elt F) (e := .f32) x0 _ _ _) _).trans ?_
  exact part_at 160 x0 _ ⟨rfl, inb_S16x100000_S16x160_0_99840⟩ 99840 rfl (by omega) r l

/-- The base of a row's counters. -/
theorem base_at (i : grid0.Coords) (r : Fin 16) :
    k0_pay659 i (ix2 r 0) = BitVec.ofNat 32 ((16 * (i 0).val + r) * 100000) := by
  have hio : iota .tc S16x1 32 [0] iota_S16x1_d0_w32 (ix2 r 0) = BitVec.ofNat 32 r.val := iota_single_apply _ _ _ _ _ _
  have h : k0_pay659 i (ix2 r 0) = (BitVec.ofNat 32 (i 0).val * 16#32 + iota .tc S16x1 32 [0] iota_S16x1_d0_w32 (ix2 r 0))
    * 100000#32 := rfl
  rw [h, hio]
  apply BitVec.eq_of_toNat_eq
  simp only [BitVec.toNat_mul, BitVec.toNat_add, BitVec.toNat_ofNat]
  omega

/-- A chunk's counters. -/
theorem chunkCtr_at (i : grid0.Coords) (k : Fin k0_t1_loop.trips) (j : Fin 15) (r : Fin 16) (l : Fin 512) :
    chunkCtr i k j (ix2 r l) = ctrS (16 * (i 0).val + r) (7680 * k.val + 512 * j.val + l) := by
  have hio : iota .tc S16x512 32 [1] iota_S16x512_d1_w32 (ix2 r l) = BitVec.ofNat 32 l.val := iota_single_apply _ _ _ _ _ _
  have h : chunkCtr i k j (ix2 r l) = ((broadcastTo S16x512 (k0_pay659 i) broadcasts_S16x1_S16x512 (ix2 r l)
      + iota .tc S16x512 32 [1] iota_S16x512_d1_w32 (ix2 r l)) + 42#32)
    + ((0#32 + BitVec.ofNat 32 k.val * 1#32) * 7680#32 + BitVec.ofNat 32 (512 * j.val)) := rfl
  rw [h, hio, spread_at, base_at]
  unfold ctrS
  apply BitVec.eq_of_toNat_eq
  simp only [BitVec.toNat_mul, BitVec.toNat_add, BitVec.toNat_ofNat]
  omega

/-- The tail's counters. -/
theorem tailCtr_at (i : grid0.Coords) (r : Fin 16) (l : Fin 160) :
    k0_pay669 i (ix2 r l) = ctrS (16 * (i 0).val + r) (99840 + l) := by
  have hio : iota .tc S16x160 32 [1] iota_S16x160_d1_w32 (ix2 r l) = BitVec.ofNat 32 l.val := iota_single_apply _ _ _ _ _ _
  have h : k0_pay669 i (ix2 r l) = (broadcastTo S16x160 (addi (k0_pay659 i) (broadcast S16x1 99840#32))
      broadcasts_S16x1_S16x160 (ix2 r l) + iota .tc S16x160 32 [1] iota_S16x160_d1_w32 (ix2 r l)) + 42#32 := rfl
  rw [h, hio, spread_at]
  show ((k0_pay659 i (ix2 r 0) + 99840#32) + BitVec.ofNat 32 l.val) + 42#32 = _
  rw [base_at]
  unfold ctrS
  apply BitVec.eq_of_toNat_eq
  simp only [BitVec.toNat_mul, BitVec.toNat_add, BitVec.toNat_ofNat]
  omega

/-- The kernel's score of a column of a row of the block. -/
def rowScore (i : grid0.Coords) (x0 : FVec Ideal S16x100000 .f32) (r : Fin 16) (j : ℕ) : EReal :=
  if h : j < 100000 then
    kscoreS (ctrS (16 * (i 0).val + r) j) (x0 (ix2 r ⟨j, h⟩)) (k0_pay658 (F := Ideal) x0 (ix2 r 0))
  else ⊥

/-- A chunk's score at a lane is the row's score at that column. -/
theorem chunkScore_at (i : grid0.Coords) (arg1 : Memref sig .tc .vmem S16x100000 .f32) (harg1 : arg1.IsWhole)
    (x0 : FVec Ideal S16x100000 .f32) (k : Fin k0_t1_loop.trips) (j : Fin 15) (r : Fin 16) (l : Fin 512) :
    chunkScore (F := Ideal) i arg1 x0 (harg1.unread x0) k j (ix2 r l) = rowScore i x0 r (7680 * k.val + 512 * j.val + l) := by
  have h := chunk_lt k j
  unfold chunkScore rowScore
  rw [scoreV_at, spread_at, chunkIn_at, chunkCtr_at, dif_pos (by omega)]

/-- The tail's score at a lane is the row's score at that column. -/
theorem tailScore_at (i : grid0.Coords) (arg1 : Memref sig .tc .vmem S16x100000 .f32) (harg1 : arg1.IsWhole)
    (x0 : FVec Ideal S16x100000 .f32) (r : Fin 16) (l : Fin 160) :
    tailScore (F := Ideal) i arg1 x0 (harg1.unread x0) (ix2 r l) = rowScore i x0 r (99840 + l) := by
  unfold tailScore rowScore
  rw [scoreV_at, spread_at, tailIn_at, tailCtr_at, dif_pos (by omega)]

/-- Every lane of the carried maxima, after `n` columns. -/
def Lanes (i : grid0.Coords) (x0 : FVec Ideal S16x100000 .f32) (n : ℕ) (acc : FVec Ideal S16x512 .f32 × IVec S16x512 32) :
    Prop :=
  ∀ (r : Fin 16) (l : Fin 512),
    Lane (rowScore i x0 r) (ctrS (16 * (i 0).val + r)) l n (acc.1 (ix2 r l)) (acc.2 (ix2 r l))

/-- A select on "greater" is an if on the order. -/
theorem sel_ogt {α : Type} (x y : EReal) (a b : α) :
    Scalar.select (Ideal.cmp .ogt x y) a b = if y < x then a else b := by
  rw [ogt_at]
  by_cases h : y < x
  · rw [if_pos h, if_pos h]; rfl
  · rw [if_neg h, if_neg h]; rfl

/-- The carried maximum after an update, at an index. -/
theorem updV_fst {s : Shape} (g : IVec s 32) (sc : FVec Ideal s .f32) (acc : FVec Ideal s .f32 × IVec s 32) (ix : s.Idx) :
    (updV g sc acc).1 ix = if (acc.1 ix : EReal) < sc ix then sc ix else acc.1 ix := sel_ogt _ _ _ _

/-- The carried counter after an update, at an index. -/
theorem updV_snd {s : Shape} (g : IVec s 32) (sc : FVec Ideal s .f32) (acc : FVec Ideal s .f32 × IVec s 32) (ix : s.Idx) :
    (updV g sc acc).2 ix = if (acc.1 ix : EReal) < sc ix then g ix else acc.2 ix := sel_ogt _ _ _ _

/-- One chunk advances every lane by one column. -/
theorem lanes_chunk (i : grid0.Coords) (arg1 : Memref sig .tc .vmem S16x100000 .f32) (harg1 : arg1.IsWhole)
    (x0 : FVec Ideal S16x100000 .f32) (k : Fin k0_t1_loop.trips) (j : Fin 15)
    (acc : FVec Ideal S16x512 .f32 × IVec S16x512 32) (h : Lanes i x0 (15 * k.val + j.val) acc) :
    Lanes i x0 (15 * k.val + j.val + 1) (chunkUpd i arg1 x0 (harg1.unread x0) k j acc) := by
  intro r l
  have hs := (h r l).succ
  have e : 512 * (15 * k.val + j.val) + l.val = 7680 * k.val + 512 * j.val + l.val := by omega
  rw [e, ← chunkScore_at i arg1 harg1, ← chunkCtr_at i k j r l] at hs
  unfold chunkUpd
  generalize chunkScore (F := Ideal) i arg1 x0 (harg1.unread x0) k j = sc at hs ⊢
  generalize chunkCtr i k j = g at hs ⊢
  rw [updV_fst, updV_snd]
  exact hs

/-- The chunks of a trip one after the other. -/
theorem lanes_chunks (i : grid0.Coords) (arg1 : Memref sig .tc .vmem S16x100000 .f32) (harg1 : arg1.IsWhole)
    (x0 : FVec Ideal S16x100000 .f32) (k : Fin k0_t1_loop.trips)
    (acc : FVec Ideal S16x512 .f32 × IVec S16x512 32) (h : Lanes i x0 (15 * k.val) acc) :
    ∀ (n : ℕ) (hn : n ≤ 15), Lanes i x0 (15 * k.val + n) (chunksUpd i arg1 x0 (harg1.unread x0) k acc n hn)
  | 0, _ => h
  | n + 1, hn => lanes_chunk i arg1 harg1 x0 k ⟨n, hn⟩ _ (lanes_chunks i arg1 harg1 x0 k acc h n (Nat.le_of_succ_le hn))

/-- Every lane after all the trips. -/
theorem lanes_end (c : Dev nD) (i : grid0.Coords) (arg1 : Memref sig .tc .vmem S16x100000 .f32) (harg1 : arg1.IsWhole)
    (arg2 : Memref sig .tc .vmem S16x1 .i32) (harg2 : arg2.IsWhole) (x0 : FVec Ideal S16x100000 .f32) :
    Lanes i x0 195 (loopEnd c i arg1 harg1 arg2 harg2 (harg1.unread x0)) := by
  unfold loopEnd
  rw [fullV_eq]
  have key : ∀ n (hn : n ≤ k0_t1_loop.trips), Lanes i x0 (15 * n)
      (st_k0_t1 Variants.none c none i arg1 harg1 arg2 harg2 x0 (harg1.unread x0) (k0_pay661, k0_pay662) n) := by
    intro n
    induction n with
    | zero =>
      intro _ r l
      have hb : (k0_pay661 : FVec Ideal S16x512 .f32) (ix2 r l) = (⊥ : EReal) := ofBits_ninf
      rw [st_k0_t1_zero]
      show Lane _ _ _ _ ((k0_pay661 : FVec Ideal S16x512 .f32) (ix2 r l)) _
      rw [hb]
      exact Lane.zero _ _ _
    | succ n ih =>
      intro hn
      have := lanes_chunks i arg1 harg1 x0 ⟨n, hn⟩ _ (ih (Nat.le_of_succ_le hn)) 15 le_rfl
      have e : st_k0_t1 (F := Ideal) Variants.none c none i arg1 harg1 arg2 harg2 x0 (harg1.unread x0) (k0_pay661, k0_pay662) (n + 1) =
          chunksUpd (F := Ideal) i arg1 x0 (harg1.unread x0) ⟨n, hn⟩ (st_k0_t1 (F := Ideal) Variants.none c none i arg1 harg1 arg2 harg2 x0
            (harg1.unread x0) (k0_pay661, k0_pay662) n) 15 le_rfl :=
        (st_k0_t1_succ (F := Ideal) Variants.none c none i arg1 harg1 arg2 harg2 x0 (harg1.unread x0) _ ⟨n, hn⟩).trans
          (trip_eq (F := Ideal) Variants.none c none i arg1 harg1 arg2 harg2 x0 (harg1.unread x0) ⟨n, hn⟩ _)
      rw [e]
      exact this
  have := key k0_t1_loop.trips le_rfl
  rw [show 15 * k0_t1_loop.trips = 195 by rw [trips_eq]] at this
  exact this

/-- The stored column of a block. -/
def blockV (c : Dev nD) (i : grid0.Coords) (arg1 : Memref sig .tc .vmem S16x100000 .f32) (harg1 : arg1.IsWhole)
    (arg2 : Memref sig .tc .vmem S16x1 .i32) (harg2 : arg2.IsWhole) (x0 : FVec F S16x100000 .f32) : IVec S16x1 32 :=
  mergeV (k0_pay659 i)
    (k0_pay667 (loopEnd c i arg1 harg1 arg2 harg2 (harg1.unread x0)).1)
    (k0_pay668 (loopEnd c i arg1 harg1 arg2 harg2 (harg1.unread x0)).1
      (loopEnd c i arg1 harg1 arg2 harg2 (harg1.unread x0)).2)
    (tailBest (tailScore i arg1 (fullV arg1 (harg1.unread x0)) (harg1.unread x0)))
    (tailAns (k0_pay669 i) (tailScore i arg1 (fullV arg1 (harg1.unread x0)) (harg1.unread x0)))

/-- The merge of the loop's and the tail's winners, at an index. -/
theorem mergeV_at (n : IVec S16x1 32) (best : FVec Ideal S16x1 .f32) (ans : IVec S16x1 32) (tb : FVec Ideal S16x1 .f32)
    (ta : IVec S16x1 32) (ix : S16x1.Idx) :
    mergeV n best ans tb ta ix =
      Scalar.select (Ideal.cmp .ogt (tb ix) (best ix)) (ta ix)
        (Scalar.select (Ideal.cmp .oeq (tb ix) (best ix)) (IntOp.minsi (ans ix) (ta ix)) (ans ix))
        - n ix - 42#32 := rfl

/-- Each row of the stored column is the row's winner. -/
theorem blockV_at (c : Dev nD) (i : grid0.Coords) (arg1 : Memref sig .tc .vmem S16x100000 .f32) (harg1 : arg1.IsWhole)
    (arg2 : Memref sig .tc .vmem S16x1 .i32) (harg2 : arg2.IsWhole) (x0 : FVec Ideal S16x100000 .f32) (r : Fin 16)
    (J : ℕ) (hJ : First (rowScore i x0 r) J) :
    blockV (F := Ideal) c i arg1 harg1 arg2 harg2 x0 (ix2 r 0) = BitVec.ofNat 32 J := by
  have hi : (i 0).val < 32 := (i 0).isLt
  have hl := lanes_end c i arg1 harg1 arg2 harg2 x0
  unfold blockV
  rw [fullV_eq, mergeV_at, base_at]
  generalize loopEnd (F := Ideal) c i arg1 harg1 arg2 harg2 (harg1.unread x0) = acc at hl
  have hb := rowBest reduces_S16x512_S16 broadcasts_S16x1_S16x512 acc.1 acc.2 r
  have ht := rowBest reduces_S16x160_S16 broadcasts_S16x1_S16x160 (tailScore (F := Ideal) i arg1 x0 (harg1.unread x0)) (k0_pay669 i) r
  simp only [tailScore_at, tailCtr_at] at ht
  exact merge_at (by omega) hJ (fun l => hl r l) hb ht

end Cert.Sampler

end
-- ==== Proof.KerVal.lean ====
/-
The kernel's run: every execution ends with the blocks' columns, reshaped, in the result.
-/
module

public import proofs.«01_k».proof.Proof.Reduce
public import proofs.«01_k».proof.Proof.Gen.KernelIdeal.Frame
public import Idealize.ShloMosaic.Lib.Pipeline.Value

@[expose] public section

set_option maxRecDepth 16384

noncomputable section

namespace Cert.Sampler.Ker

open Idealize.ShloMosaic.ValueIdx
open Idealize.ShloMosaic hiding ix1 ix2
open Idealize.ShloMosaic.Tactic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The grid has 32 points. -/
theorem N_eq : cfg0.N = 32 := N_0

/-- The grid point of a row, and the row within its block. -/
def ptOf (i : S512x1.Idx) : Fin cfg0.N := ⟨(i 0).val / 16, by
  have h0 : (i 0).val < 512 := (i 0).isLt
  rw [N_eq]; omega⟩
/-- A row's place within its block. -/
def rowOf (i : S512x1.Idx) : Fin 16 := ⟨(i 0).val % 16, Nat.mod_lt _ (by decide)⟩

/-- What the result column is shown to hold. -/
def finalCol (c : Dev nD) : IVec S512x1 32 := fun i => outsAt0 m c (ptOf i) (ix2 (rowOf i) 0)

/-- The windows' block numbers and the grid's coordinate at each point. -/
theorem pt_facts : ∀ t : Fin cfg0.N,
    (grid0.coords t 0).val = t.val ∧
    win0_1.index t 0 * win0_1.size 0 = t.val * 16 ∧ win0_1.xsize (grid0.coords t) 0 = 16
      ∧ win0_1.index t 1 * win0_1.size 1 = 0 ∧ win0_1.xsize (grid0.coords t) 1 = 1
      ∧ win0_0.index t 0 * win0_0.size 0 = t.val * 16 ∧ win0_0.index t 1 * win0_0.size 1 = 0 := by
  decide +kernel

/-- What a point writes back is its block of the result column. -/
theorem flushed_eq (c : Dev nD) (t : Fin cfg0.N) :
    (dats m 0 c).flushed 1 t = (win0_1.blk t).view.read (Elt F) (finalCol m c) := by
  show (cfg0.win 1).cut (grid0.coords t) ((dats m 0 c).after 1 t) = _
  rw [after0_1]
  generalize ho : outsAt0 m c = o
  have hf : finalCol m c = fun i => o (ptOf i) (ix2 (rowOf i) 0) := by rw [← ho]; rfl
  rw [hf]
  obtain ⟨-, e0, -, e1, -⟩ := pt_facts t
  funext j
  have hj : (j 0).val < 16 := (j 0).isLt
  have hj1 : (j 1).val < 1 := (j 1).isLt
  show o t _ = o (ptOf ((win0_1.rect t).emb j)) (ix2 (rowOf ((win0_1.rect t).emb j)) 0)
  have hv : ((win0_1.rect t).emb j 0).val = t.val * 16 + (j 0).val := by
    show win0_1.index t 0 * win0_1.size 0 + 1 * (j 0).val = _
    rw [e0, one_mul]
  have hp : ptOf ((win0_1.rect t).emb j) = t := by
    apply Fin.ext
    show ((win0_1.rect t).emb j 0).val / 16 = t.val
    rw [hv]; omega
  have hr : (rowOf ((win0_1.rect t).emb j)).val = (j 0).val := by
    show ((win0_1.rect t).emb j 0).val % 16 = _
    rw [hv]; omega
  rw [hp]
  congr 1
  funext a
  apply Fin.ext
  match a with
  | ⟨0, _⟩ => exact hr.symm
  | ⟨1, _⟩ => show (j 1).val = 0; omega

/-- Which rows a point's block holds. -/
theorem mem_blk (t : Fin cfg0.N) (i : S512x1.Idx) :
    i ∈ ((cfg0.win 1).blk t).view.set ↔ t.val * 16 ≤ (i 0).val ∧ (i 0).val < t.val * 16 + 16 := by
  show i ∈ ((View.whole main_v1).slice (win0_1.rect t)).set ↔ _
  rw [View.set_slice_whole, Rect.mem_set_unit]
  have h1 : (i 1).val < 1 := (i 1).isLt
  obtain ⟨-, e0, e1, e2, e3, -⟩ := pt_facts t
  refine ⟨fun h => ?_, fun h a => ?_⟩
  · have : win0_1.index t 0 * win0_1.size 0 ≤ (i 0).val ∧
        (i 0).val < win0_1.index t 0 * win0_1.size 0 + win0_1.xsize (grid0.coords t) 0 := h 0
    rw [e0, e1] at this; exact this
  · match a with
    | ⟨0, _⟩ =>
      show win0_1.index t 0 * win0_1.size 0 ≤ (i 0).val ∧
        (i 0).val < win0_1.index t 0 * win0_1.size 0 + win0_1.xsize (grid0.coords t) 0
      rw [e0, e1]; exact h
    | ⟨1, _⟩ =>
      show win0_1.index t 1 * win0_1.size 1 ≤ (i 1).val ∧
        (i 1).val < win0_1.index t 1 * win0_1.size 1 + win0_1.xsize (grid0.coords t) 1
      rw [e2, e3]; omega

/-- The blocks tile the result column. -/
theorem cover (i : S512x1.Idx) :
    ∃ t : Fin cfg0.N, (cfg0.win 1).flush t = true ∧ i ∈ ((cfg0.win 1).blk t).view.set := by
  refine ⟨ptOf i, flush0_1 _, ?_⟩
  rw [mem_blk]
  show (i 0).val / 16 * 16 ≤ (i 0).val ∧ (i 0).val < (i 0).val / 16 * 16 + 16
  omega

/-- So the result column ends as stated. -/
theorem final_col (c : Dev nD) : (dats m 0 c).arrAt 1 cfg0.N = finalCol m c :=
  (dats m 0 c).arrAt_eq_of_cover 1 (finalCol m c) (fun t _ => flushed_eq m c t) cover

/-- The last line's result is the column reshaped. -/
theorem tail_eq (c : Dev nD) :
    (Pipeline.afterTail₀ cfgs (dats m) 0 (V0 m) [hostOps1] c main_v2 : IVec S64x8 32) =
      shapeCast S64x8 (finalCol m c) Facts₀.shapeCasts_S512x1_S64x8 := by
  rw [← final_col m c]
  rw [← Pipeline.withArrays_arr spec0 winFacts0.arr_inj c (V0 m c) (fun w => (dats m 0 c).arrAt w cfg0.N) 1]
  rfl

/-- Every run ends with the reshaped column in the result and the argument as it was. -/
theorem run : θ_run defs (onTc (τ := τ) (main (F := F))) ⟨m, fun _ => 0, ρ⟩ fun r => ∀ c : Dev nD,
      (r.2.mem ((c.tc : Thread nD τ).loc main_v2) : IVec S64x8 32) =
        shapeCast S64x8 (finalCol m c) Facts₀.shapeCasts_S512x1_S64x8
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

/-- The zero offset. -/
theorem hz : (![0, 0] : Fin 2 → ℕ) = fun _ => 0 := by
  funext a; match a with | ⟨0, _⟩ => rfl | ⟨1, _⟩ => rfl

/-- The one store's payload is what the block ends with. -/
theorem out_eq (c : Dev nD) (i : grid0.Coords) (arg1 : Memref sig .tc .vmem S16x100000 .f32) (harg1 : arg1.IsWhole)
    (arg2 : Memref sig .tc .vmem S16x1 .i32) (harg2 : arg2.IsWhole) (x0 : Vec F S16x100000 .f32) :
    out0_A_1 c i arg1 harg1 arg2 harg2 x0 =
        mergeV (k0_pay659 i)
          (k0_pay667 (loopEnd c i arg1 harg1 arg2 harg2 (harg1.unread x0)).1)
          (k0_pay668 (loopEnd c i arg1 harg1 arg2 harg2 (harg1.unread x0)).1
            (loopEnd c i arg1 harg1 arg2 harg2 (harg1.unread x0)).2)
          (tailBest (tailScore i arg1 (fullV arg1 (harg1.unread x0)) (harg1.unread x0)))
          (tailAns (k0_pay669 i) (tailScore i arg1 (fullV arg1 (harg1.unread x0)) (harg1.unread x0))) := by
  unfold out0_A_1
  rw [View.read_writes_eq_canon _ _ _ (cover0_A_1 c i arg1 harg1 arg2 harg2 x0), run_eq]
  exact View.canon_unit_zero (S := S16x1) hz _ _

/-- The array that the region reads: the argument as rows. -/
theorem entry_eq (c : Dev nD) :
    (V m c main_v0 : Vec F S512x100000 .f32) =
      shapeCast S512x100000 (m ((c.tc : Thread nD τ).loc main_arg0)) Facts₀.shapeCasts_S64x8x100000_S512x100000 := by
  rfl

/-- A point's block of it. -/
theorem iblk_at (c : Dev nD) (t : Fin cfg0.N) (r : Fin 16) (j : Fin 100000) :
    (iblk m c 0 t : Vec F S16x100000 .f32) (ix2 r j) =
      shapeCast S512x100000 (m ((c.tc : Thread nD τ).loc main_arg0)) Facts₀.shapeCasts_S64x8x100000_S512x100000
        (ix2 ⟨t.val * 16 + r.val, by have : t.val < 32 := N_eq ▸ t.isLt; omega⟩ j) := by
  rw [← entry_eq]
  obtain ⟨-, -, -, -, -, e0, e1⟩ := pt_facts t
  unfold iblk
  show (V m c main_v0) ((win0_0.rect t).emb (ix2 r j)) = _
  refine congrArg (V m c main_v0) ?_
  funext a
  apply Fin.ext
  match a with
  | ⟨0, _⟩ => show win0_0.index t 0 * win0_0.size 0 + 1 * r.val = t.val * 16 + r.val; rw [e0, one_mul]
  | ⟨1, _⟩ => show win0_0.index t 1 * win0_0.size 1 + 1 * j.val = j.val; rw [e1, one_mul, zero_add]

end Cert.Sampler.Ker

end
-- ==== Proof.RefRun.lean ====
/-
The reference program is one straight line of host operations.
-/
module

public import proofs.«01_k».proof.Proof.Gen.ReferenceIdeal
public import Idealize.ShloMosaic.Lib.StableHlo.RunHlo

@[expose] public section

set_option maxRecDepth 16384

noncomputable section

namespace Cert.Sampler.Ref

open Idealize.ShloMosaic Idealize.SL.Sem Idealize.ShloMosaic.StableHlo Idealize.ShloMosaic.Tactic Cert.ReferenceIdeal

variable {F : FTy → Type} [FloatOps F] [Cert.ReferenceIdeal.Facts]

/-- Two lines one after the other are the line of both lists. -/
theorem isSeq_bind {nD : ℕ} {τ : Topo} {sig : RefSig} {Val : EltTy → Type} {Λ : Labels}
    {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at hp hk ⊢; rw [hp, hk, seq_append]

/-- A line's last operation, with nothing after it. -/
theorem isSeq_one {nD : ℕ} {τ : Topo} {sig : RefSig} {Val : EltTy → Type} {Λ : Labels} (op : HloOp τ sig Val) :
    IsSeq (nD := nD) (Λ := Λ) (hlo rfl op fun _ => .ret (⟨⟩ : PUnit)) [op] := rfl

/-- A program together with the list that it is the line of. -/
def withOps {nD : ℕ} {τ : Topo} {sig : RefSig} {Val : EltTy → Type} {Λ : Labels}
    {p : Prog (TpuEff nD τ sig Val Λ .tc) PUnit} {l : List (HloOp τ sig Val)} (h : IsSeq p l) :
    {ops : List (HloOp τ sig Val) // IsSeq p ops} := ⟨l, h⟩

/-- The same for a program of every device. -/
def withOpsAll {nD : ℕ} {τ : Topo} {sig : RefSig} {Val : EltTy → Type} {Λ : Labels}
    {p : Dev nD → Prog (TpuEff nD τ sig Val Λ .tc) PUnit} {l : List (HloOp τ sig Val)} (h : ∀ d, IsSeq (p d) l) :
    {ops : List (HloOp τ sig Val) // ∀ d, IsSeq (p d) ops} := ⟨l, h⟩

/-- Statements 1 to 60 of the generator's body, as a list. -/
def ops0 : {ops : List (HloOp τ sig (Elt F)) // IsSeq (fn_threefry2x32.body_part0 (F := F) main_call0_call0.v4 main_call0_call0.v6 main_call0_call0.v17 main_call0_call0.v16 main_call0_call0.call0) ops} :=
  by apply withOps; repeat (first | exact isSeq_one _ | exact IsSeq.nil | apply IsSeq.cons)

/-- Statements 61 to 120 of the generator's body, as a list. -/
def ops1 : {ops : List (HloOp τ sig (Elt F)) // IsSeq (fn_threefry2x32.body_part1 (F := F) main_call0_call0.v4 main_call0_call0.v6 main_call0_call0.v17 main_call0_call0.v16 main_call0_call0.call0) ops} :=
  by apply withOps; repeat (first | exact isSeq_one _ | exact IsSeq.nil | apply IsSeq.cons)

/-- Statements 121 to 180 of the generator's body, as a list. -/
def ops2 : {ops : List (HloOp τ sig (Elt F)) // IsSeq (fn_threefry2x32.body_part2 (F := F) main_call0_call0.v4 main_call0_call0.v6 main_call0_call0.v17 main_call0_call0.v16 main_call0_call0.call0) ops} :=
  by apply withOps; repeat (first | exact isSeq_one _ | exact IsSeq.nil | apply IsSeq.cons)

/-- Statements 181 to 223 of the generator's body, as a list. -/
def ops3 : {ops : List (HloOp τ sig (Elt F)) // IsSeq (fn_threefry2x32.body_part3 (F := F) main_call0_call0.v4 main_call0_call0.v6 main_call0_call0.v17 main_call0_call0.v16 main_call0_call0.call0) ops} :=
  by apply withOps; repeat (first | exact isSeq_one _ | exact IsSeq.nil | apply IsSeq.cons)

/-- The generator's body. -/
def opsT : {ops : List (HloOp τ sig (Elt F)) // IsSeq (fn_threefry2x32.body (F := F) main_call0_call0.v4 main_call0_call0.v6 main_call0_call0.v17 main_call0_call0.v16 main_call0_call0.call0) ops} :=
  ⟨_, isSeq_bind ops0.2 (isSeq_bind ops1.2 (isSeq_bind ops2.2 ops3.2))⟩

/-- The uniform draw's body. -/
def opsU : {ops : List (HloOp τ sig (Elt F)) // IsSeq (fn_uniform.body (F := F) (.of main_v14) main_call0.cst main_call0.cst_0 main_call0_call0) ops} :=
  by apply withOps; repeat (first | exact isSeq_one _ | exact IsSeq.nil | apply IsSeq.cons | refine isSeq_bind opsT.2 ?_)

/-- The noise's body. -/
def opsG : {ops : List (HloOp τ sig (Elt F)) // IsSeq (fn_gumbel.body (F := F) (.of main_v14) main_call0) ops} :=
  by apply withOps; repeat (first | exact isSeq_one _ | exact IsSeq.nil | apply IsSeq.cons | refine isSeq_bind opsU.2 ?_)

/-- The arg-max's body. -/
def opsA : {ops : List (HloOp τ sig (Elt F)) // IsSeq (fn_argmax.body (F := F) (.of main_v16) main_call1) ops} :=
  by apply withOps; repeat (first | exact isSeq_one _ | exact IsSeq.nil | apply IsSeq.cons)

/-- The whole reference. -/
def opsR : {ops : List (HloOp τ sig (Elt F)) // ∀ d, IsSeq (main (F := F) d) ops} :=
  by
    apply withOpsAll; intro d
    repeat (first | exact isSeq_one _ | exact IsSeq.nil | apply IsSeq.cons | refine isSeq_bind opsG.2 ?_ | refine isSeq_bind opsA.2 ?_)

end Cert.Sampler.Ref

end
-- ==== Proof.RefVal.lean ====
/-
What the reference leaves in its result.
-/
module

public import proofs.«01_k».proof.Proof.RefRun
public import proofs.«01_k».proof.Proof.Spec
public import Idealize.ShloMosaic.Lib.Decide
public import Idealize.ShloMosaic.Lib.Tactic
public import Idealize.ShloMosaic.Lib.Pipeline.Frame

@[expose] public section

set_option maxRecDepth 65536

noncomputable section

namespace Cert.Sampler.Ref

open Idealize.ShloMosaic Idealize.SL.Sem Idealize.ShloMosaic.StableHlo Idealize.ShloMosaic.Tactic Cert.ReferenceIdeal

variable {F : FTy → Type} [FloatOps F]

/-- The operations before the noise. -/
def opsH : List (HloOp τ sig (Elt F)) := opsR.1.take 20

/-- The operations after the noise. -/
def opsE : List (HloOp τ sig (Elt F)) := opsR.1.drop (20 + opsG (F := F).1.length)

/-- The line cut before and after the noise. -/
theorem ops_cut : (opsR (F := F)).1 = opsH ++ (opsG.1 ++ opsE) := by
  sl_kernel_rfl

/-- The noise's body leaves the noise of the key. -/
theorem noise_eq (V : Valuation τ sig (Elt F)) :
    (after opsG.1 V (Proc.devRef .tc main_v15) : FVec F S512x100000 .f32) =
      Cert.Pre_clear_winner.fn_gumbel (F := F) (V (Proc.devRef .tc main_v14)) := by
  sl_kernel_rfl

/-- The noise's body leaves the logits. -/
theorem noise_v7 (V : Valuation τ sig (Elt F)) :
    after opsG.1 V (Proc.devRef .tc main_v7) = V (Proc.devRef .tc main_v7) := by
  sl_kernel_rfl

/-- The noise's body leaves the argument. -/
theorem noise_arg (V : Valuation τ sig (Elt F)) :
    after opsG.1 V (Proc.devRef .tc main_arg0) = V (Proc.devRef .tc main_arg0) := by
  sl_kernel_rfl

/-- The key before the noise. -/
theorem head_key (V : Valuation τ sig (Elt F)) :
    (after opsH V (Proc.devRef .tc main_v14) : IVec S2 32) = keyV := by
  sl_kernel_rfl

/-- The logits before the noise. -/
theorem head_logits (V : Valuation τ sig (Elt F)) :
    (after opsH V (Proc.devRef .tc main_v7) : FVec F S512x100000 .f32) = logitsV (V (Proc.devRef .tc main_arg0)) := by
  sl_kernel_rfl

/-- The first lines leave the argument as it was. -/
theorem head_arg (V : Valuation τ sig (Elt F)) :
    after opsH V (Proc.devRef .tc main_arg0) = V (Proc.devRef .tc main_arg0) := by
  sl_kernel_rfl

/-- The two programs compare pairs alike. -/
theorem reducer_eq : Cert.ReferenceIdeal.reducer_argmax_f32_i32 (F := F)
    = Cert.Pre_clear_winner.reducer_argmax_f32_i32 (F := F) := rfl

/-- The arg-max's body leaves the arg-max of the scores. -/
theorem argmax_eq (V : Valuation τ sig (Elt F)) :
    (after opsA.1 V (Proc.devRef .tc main_v17) : IVec S512 32) =
      Cert.Pre_clear_winner.fn_argmax (F := F) (V (Proc.devRef .tc main_v16) : FVec F S512x100000 .f32) := by
  unfold opsA withOps Cert.Pre_clear_winner.fn_argmax
  dsimp only
  rw [← reducer_eq]
  generalize reducer_argmax_f32_i32 (F := F) = f
  after_results
  rfl

/-- The end of the line cut at the arg-max. -/
theorem end_cut : opsE (F := F) = opsE.take 1 ++ (opsA.1 ++ opsE.drop (1 + opsA (F := F).1.length)) := by
  sl_kernel_rfl

/-- The scores after the last lines. -/
theorem end_scores (V : Valuation τ sig (Elt F)) :
    (after (opsE.take 1) V (Proc.devRef .tc main_v16) : FVec F S512x100000 .f32) =
      addf (V (Proc.devRef .tc main_v15) : FVec F S512x100000 .f32) (V (Proc.devRef .tc main_v7) : FVec F S512x100000 .f32) := by
  sl_kernel_rfl

/-- The result after the last lines. -/
theorem end_reshape (V : Valuation τ sig (Elt F)) :
    (after (opsE.drop (1 + opsA (F := F).1.length)) V (Proc.devRef .tc main_v18) : IVec S64x8 32) =
      shapeCast S64x8 (V (Proc.devRef .tc main_v17) : IVec S512 32) Cert.ReferenceIdeal.Facts₀.shapeCasts_S512_S64x8 := by
  sl_kernel_rfl

/-- The result from the noise and the logits. -/
theorem end_eq (V : Valuation τ sig (Elt F)) :
    (after opsE V (Proc.devRef .tc main_v18) : IVec S64x8 32) =
      shapeCast S64x8 (Cert.Pre_clear_winner.fn_argmax (F := F)
        (addf (V (Proc.devRef .tc main_v15) : FVec F S512x100000 .f32) (V (Proc.devRef .tc main_v7) : FVec F S512x100000 .f32)))
        Cert.ReferenceIdeal.Facts₀.shapeCasts_S512_S64x8 := by
  rw [end_cut, after_append, after_append]
  refine (end_reshape _).trans ?_
  rw [argmax_eq, end_scores]

/-- The last lines leave the argument as it was. -/
theorem end_arg (V : Valuation τ sig (Elt F)) :
    after opsE V (Proc.devRef .tc main_arg0) = V (Proc.devRef .tc main_arg0) := by
  sl_kernel_rfl

/-- The reference's result is the arg-max of the scores, reshaped. -/
theorem result_eq (V : Valuation τ sig (Elt F)) :
    (after opsR.1 V (Proc.devRef .tc main_v18) : IVec S64x8 32) =
      shapeCast S64x8 (Cert.Pre_clear_winner.fn_argmax (F := F) (rscoreV (V (Proc.devRef .tc main_arg0))))
        Cert.ReferenceIdeal.Facts₀.shapeCasts_S512_S64x8 := by
  rw [ops_cut, after_append, after_append]
  refine (end_eq _).trans ?_
  rw [noise_eq, noise_v7, head_key, head_logits]
  rfl

/-- The reference leaves its argument as it was. -/
theorem arg_eq (V : Valuation τ sig (Elt F)) :
    after opsR.1 V (Proc.devRef .tc main_arg0) = V (Proc.devRef .tc main_arg0) := by
  rw [ops_cut, after_append, after_append, end_arg, noise_arg, head_arg]

end Cert.Sampler.Ref

end
-- ==== Proof.RefTop.lean ====
/-
The reference's run: every execution ends with the arg-max of the scores in the result.
-/
module

public import proofs.«01_k».proof.Proof.RefVal
public import Idealize.ShloMosaic.Lib.Quiescent
public import Idealize.ShloMosaic.Lib.StableHlo.RunHlo

@[expose] public section

set_option maxRecDepth 65536

noncomputable section

namespace Cert.Sampler.Ref

open Idealize.ShloMosaic Idealize.SL.Sem Idealize.ShloMosaic.StableHlo Idealize.ShloMosaic.Tactic Cert.ReferenceIdeal

variable {F : FTy → Type} [FloatOps F]

/-- The reference has buffers in the device's memory only, and the TensorCore names all of them. -/
theorem mem_tcRefs (b : DevRef τ sig) : b ∈ tcRefs τ sig := by
  obtain ⟨t, i, h⟩ := b
  cases t with
  | hbm => exact devRef_mem_tcRefs (τ := τ) (sig := sig) ⟨.hbm, i, rfl⟩
  | host => exact i.elim0
  | shared => exact i.elim0
  | «local» κ cs => cases κ <;> cases cs <;> exact i.elim0

/-- Every operation of the line touches buffers of the device only. -/
theorem bufs_sub : (opsR (F := F)).1.Forall fun op => op.bufs ⊆ tcRefs τ sig :=
  List.forall_iff_forall_mem.mpr fun _ _ b _ => mem_tcRefs b

/-- No operation of the line writes a buffer fresh. -/
theorem fresh_none : (opsR (F := F)).1.Forall fun op => op.fresh = ∅ :=
  forall_fresh_of_map rfl

/-- Every run ends with the arg-max in the result and the argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v18) : IVec S64x8 32) =
        shapeCast S64x8 (Cert.Pre_clear_winner.fn_argmax (F := F) (rscoreV (m ((c.tc : Thread nD τ).loc main_arg0))))
          Cert.ReferenceIdeal.Facts₀.shapeCasts_S512_S64x8
      ∧ r.2.mem ((c.tc : Thread nD τ).loc main_arg0) = m ((c.tc : Thread nD τ).loc main_arg0) :=
  (θ_run defs _ _).mono (fun r hr c => ⟨(hr c main_v18).trans (result_eq _), (hr c main_arg0).trans (arg_eq _)⟩)
    (run_hlo defs main opsR.2 (by decide) (by decide) bufs_sub
      (List.forall_iff_forall_mem.mp fresh_none) m ρ)

/-- The reference's frame: the argument is unchanged and every counter is at zero. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
      ∧ r.2.sem = fun _ => 0 :=
  (θ_run defs _ _).mono (fun r hr => ⟨fun c => (hr c).2, sem_eq_zero_of_no_sems (by decide) _⟩) (run m ρ)

end Cert.Sampler.Ref

end
-- ==== Proof.Match.lean ====
/-
The kernel's column is the reference's arg-max, where the precondition holds.
-/
module

public import proofs.«01_k».proof.Proof.PreVal
public import proofs.«01_k».proof.Proof.BlockVal
public import proofs.«01_k».proof.Proof.KerVal
public import proofs.«01_k».proof.Proof.RefTop
public import Idealize.ShloMosaic.Lib.Pointwise.Reduce
public import Idealize.ShloMosaic.Lib.Pointwise.Reshape

@[expose] public section

set_option maxRecDepth 16384

noncomputable section

namespace Cert.Sampler

open Idealize.ShloMosaic.ValueIdx
open Idealize.ShloMosaic hiding ix1 ix2
open Idealize.ShloMosaic.Tactic Idealize.ShloMosaic.TcCoe

/-- The sum of a row of the reference's input. -/
def totS (x : FVec Ideal Cert.KernelIdeal.S512x100000 .f32) (R : Fin 512) : EReal := ∑ k : Fin 100000, (x (ix2 R k) : EReal)

section Host
open Cert.Pre_clear_winner

/-- A row's sum on the host. -/
theorem hostSum_at (x : FVec Ideal S512x100000 .f32) (R : Fin 512) :
    (Host.reduceAdd x (constant (F := Ideal) S_ .f32 0x00000000#32) Facts.reducesTo_S512x100000_S512_d1 Facts.h_S_ :
      FVec Ideal S512 .f32) (ix1 R) = totS x R := by
  have h0 : (constant (F := Ideal) S_ .f32 0x00000000#32 (Shape.Idx.first Facts.h_S_) : EReal) = 0 := ofBits_zero
  rw [Host.reduceAdd_apply, h0, Ideal.hostReduceAdd_def]
  unfold Ideal.hostReduceAdd
  rw [zero_add]
  exact Shape.ReducesTo.sum_fiber_r2_a1 _ (ix1 R) x

/-- A probability over its row's sum, at an index, over any float values. -/
theorem quot_unf {F : FTy → Type} [FloatOps F] (x : FVec F S64x8x100000 .f32) (R : Fin 512) (j : Fin 100000) :
    quotV (F := F) x (ix2 R j) = FloatOps.hostDivf (rowsV x (ix2 R j))
      ((Host.reduceAdd (rowsV x) (constant (F := F) S_ .f32 0x00000000#32) Facts.reducesTo_S512x100000_S512_d1 Facts.h_S_ :
        FVec F S512 .f32) (ix1 R)) := by
  unfold quotV
  generalize rowsV x = X
  generalize (Host.reduceAdd X (constant (F := F) S_ .f32 0x00000000#32) Facts.reducesTo_S512x100000_S512_d1 Facts.h_S_ :
    FVec F S512 .f32) = M
  refine congrArg (fun a => FloatOps.hostDivf (X (ix2 R j)) (M a)) ?_
  funext a
  match a with
  | ⟨0, _⟩ => rfl

/-- The same over the extended reals. -/
theorem quotV_at (x : FVec Ideal S64x8x100000 .f32) (R : Fin 512) (j : Fin 100000) :
    quotV (F := Ideal) x (ix2 R j) = Ideal.div (rowsV x (ix2 R j)) (totS (rowsV x) R) := by
  rw [quot_unf, hostSum_at, Ideal.hostDivf_def]

/-- A score at an index, over any float values. -/
theorem rscore_unf {F : FTy → Type} [FloatOps F] (x : FVec F S64x8x100000 .f32) (ix : S512x100000.Idx) :
    rscoreV (F := F) x ix = FloatOps.addf (noiseV (F := F) ix)
      (FloatOps.hostUnary .log (FloatOps.addf (quotV x ix) (FloatOps.ofBits .f32 0x0DA24260#32))) := by
  unfold rscoreV logitsV
  generalize noiseV (F := F) = N
  generalize quotV x = Q
  rfl

/-- The reference's noise at a row and a column. -/
theorem noise_at (R : Fin 512) (j : Fin 100000) : noiseV (F := Ideal) (ix2 R j) = rnoiseS (ctrS R.val j.val) :=
  noiseV_at (ix2 R j)

/-- The reference's score at an index. -/
theorem rscoreV_at (x : FVec Ideal S64x8x100000 .f32) (R : Fin 512) (j : Fin 100000) :
    rscoreV (F := Ideal) x (ix2 R j) = rscoreS (ctrS R.val j.val) (rowsV x (ix2 R j)) (totS (rowsV x) R) := by
  rw [rscore_unf, noise_at, quotV_at]
  unfold rscoreS epsS
  rw [Ideal.addf_def, Ideal.addf_def, Ideal.hostUnary_log_def, Ideal.ofBits_def]

/-- What the precondition says of a row, in the scores' formulas. -/
theorem pre_scores (x : FVec Ideal S64x8x100000 .f32) (h : Cert.Pre_clear_winner.fn (F := Ideal) x = fun _ => 1#1)
    (R : Fin 512) :
    ∃ J : Fin 100000, fn_argmax (F := Ideal) (rscoreV (F := Ideal) x) (ix1 R) = BitVec.ofNat 32 J.val ∧
      qminS ≤ Ideal.div (rowsV x (ix2 R J)) (totS (rowsV x) R) ∧ nminS < rnoiseS (ctrS R.val J.val) ∧
      ∀ j : Fin 100000, j ≠ J → rscoreS (ctrS R.val j.val) (rowsV x (ix2 R j)) (totS (rowsV x) R) <
        rscoreS (ctrS R.val J.val) (rowsV x (ix2 R J)) (totS (rowsV x) R) - gapS := by
  obtain ⟨J, h1, h2, h3, h4⟩ := pre_row (quotV x) noiseV (rscoreV x) ((pre_eq x).symm.trans h) R
  refine ⟨J, h1, ?_, ?_, fun j hj => ?_⟩
  · rw [← quotV_at]; exact h2
  · rw [← noise_at]; exact h3
  · rw [← rscoreV_at, ← rscoreV_at]; exact h4 j hj

end Host

section Kernel
open Cert.KernelIdeal Cert.KernelIdeal.Gen

/-- A row's sum in the kernel's block. -/
theorem blockSum_at (x0 : FVec Ideal S16x100000 .f32) (r : Fin 16) :
    k0_pay658 (F := Ideal) x0 (ix2 r 0) = ∑ k : Fin 100000, (x0 (ix2 r k) : EReal) := by
  unfold k0_pay658
  refine (col_at _ _ r).trans ?_
  rw [shapeCast_self]
  refine (Ideal.multiReduction_add_single _ _ _ _ _ _).trans ?_
  refine Finset.sum_congr rfl fun k _ => congrArg x0 ?_
  funext a
  match a with
  | ⟨0, _⟩ => rfl
  | ⟨1, _⟩ => rfl

/-- Where the scores that the precondition speaks of are as it says, its winner is the kernel's. -/
theorem first_of (i : grid0.Coords) (x0 : FVec Ideal S16x100000 .f32) (r : Fin 16) (R : ℕ) (hR : 16 * (i 0).val + r.val = R)
    (p : Fin 100000 → EReal) (hx : ∀ j, x0 (ix2 r j) = p j) (t : EReal) (ht : t = ∑ k : Fin 100000, p k) (J : Fin 100000)
    (hq : qminS ≤ Ideal.div (p J) t) (hn : nminS < rnoiseS (ctrS R J.val))
    (hg : ∀ j : Fin 100000, j ≠ J → rscoreS (ctrS R j.val) (p j) t < rscoreS (ctrS R J.val) (p J) t - gapS) :
    First (rowScore i x0 r) J.val := by
  have hs : k0_pay658 (F := Ideal) x0 (ix2 r 0) = t := by
    rw [blockSum_at, ht]
    exact Finset.sum_congr rfl fun k _ => hx k
  have hk : ∀ (j : ℕ) (hj : j < 100000), rowScore i x0 r j = kscoreS (ctrS R j) (p ⟨j, hj⟩) t := by
    intro j hj
    unfold rowScore
    rw [dif_pos hj, hs, hx, hR]
  obtain ⟨hl, hb⟩ := kscore_ge (ctrS R J.val) (p J) t hn hq
  have hlt : ∀ j : Fin 100000, j ≠ J → rowScore i x0 r j.val < rowScore i x0 r J.val := by
    intro j hj
    rw [hk j.val j.isLt, hk J.val J.isLt]
    exact lt_of_le_of_lt (kscore_le _ _ _) (lt_of_lt_of_le (hg j hj) hl)
  refine ⟨J.isLt, fun j hj => ?_, fun j hj => ?_, ?_⟩
  · by_cases hc : (⟨j, hj⟩ : Fin 100000) = J
    · rw [← hc]
    · exact (hlt ⟨j, hj⟩ hc).le
  · exact hlt ⟨j, hj.trans J.isLt⟩ fun hc => absurd (congrArg Fin.val hc) (Nat.ne_of_lt hj)
  · rw [hk J.val J.isLt]; exact hb

end Kernel

section Final
open Cert.KernelIdeal Cert.KernelIdeal.Gen

variable (m : (ℓ : Loc nD τ sig) → Buf (Elt Ideal) ℓ)

/-- Each row of the kernel's column is the row's arg-max. -/
theorem final_at (c : Dev nD)
    (h : Cert.Pre_clear_winner.fn (F := Ideal) (m ((c.tc : Thread nD τ).loc main_arg0)) = fun _ => 1#1) (R : Fin 512) :
    Ker.finalCol m c (ix2 R 0) =
      Cert.Pre_clear_winner.fn_argmax (F := Ideal) (rscoreV (F := Ideal) (m ((c.tc : Thread nD τ).loc main_arg0))) (ix1 R) := by
  obtain ⟨J, h1, h2, h3, h4⟩ := pre_scores _ h R
  rw [h1]
  have hpt : (Ker.ptOf (ix2 R 0)).val = R.val / 16 := rfl
  have hrow : (Ker.rowOf (ix2 R 0)).val = R.val % 16 := rfl
  have hco := (Ker.pt_facts (Ker.ptOf (ix2 R 0))).1
  have hi := fun j => Ker.iblk_at m c (Ker.ptOf (ix2 R 0)) (Ker.rowOf (ix2 R 0)) j
  show outsAt0 m c (Ker.ptOf (ix2 R 0)) (ix2 (Ker.rowOf (ix2 R 0)) 0) = _
  have ho : outsAt0 m c (Ker.ptOf (ix2 R 0)) = out0_A_1 c (grid0.coords (Ker.ptOf (ix2 R 0))) (ms0_0 (Ker.ptOf (ix2 R 0)))
      (hs0_0 (Ker.ptOf (ix2 R 0))) (ms0_1 (Ker.ptOf (ix2 R 0))) (hs0_1 (Ker.ptOf (ix2 R 0)))
      (Cert.KernelIdeal.Gen.iblk m c 0 (Ker.ptOf (ix2 R 0))) := rfl
  rw [ho]
  generalize (Cert.KernelIdeal.Gen.iblk m c 0 (Ker.ptOf (ix2 R 0)) : Vec Ideal S16x100000 .f32) = x0 at hi
  rw [Ker.out_eq]
  refine blockV_at c _ _ _ _ _ x0 _ J.val ?_
  refine first_of _ x0 _ R.val (by rw [hco, hpt, hrow]; omega)
    (fun j => rowsV (F := Ideal) (m ((c.tc : Thread nD τ).loc main_arg0)) (ix2 R j)) (fun j => ?_) _ rfl J h2 h3 h4
  rw [hi j]
  refine congrArg (rowsV (F := Ideal) (m ((c.tc : Thread nD τ).loc main_arg0))) ?_
  refine congrArg (fun a => ix2 a j) (Fin.ext ?_)
  show (Ker.ptOf (ix2 R 0)).val * 16 + (Ker.rowOf (ix2 R 0)).val = R.val
  rw [hpt, hrow]; omega

/-- So the two programs' results are the same. -/
theorem result_same (c : Dev nD)
    (h : Cert.Pre_clear_winner.fn (F := Ideal) (m ((c.tc : Thread nD τ).loc main_arg0)) = fun _ => 1#1) :
    shapeCast S64x8 (Ker.finalCol m c) Facts₀.shapeCasts_S512x1_S64x8 =
      shapeCast S64x8 (Cert.Pre_clear_winner.fn_argmax (F := Ideal)
        (rscoreV (F := Ideal) (m ((c.tc : Thread nD τ).loc main_arg0)))) Cert.ReferenceIdeal.Facts₀.shapeCasts_S512_S64x8 := by
  have hf := final_at m c h
  generalize Cert.Pre_clear_winner.fn_argmax (F := Ideal)
        (rscoreV (F := Ideal) (m ((c.tc : Thread nD τ).loc main_arg0))) = A at hf
  generalize Ker.finalCol m c = B at hf
  have hB : B = shapeCast S512x1 A (by decide) := by
    funext ix
    obtain ⟨R, rfl⟩ : ∃ R : Fin 512, ix = ix2 R 0 := by
      refine ⟨ix 0, ?_⟩
      funext a
      match a with
      | ⟨0, _⟩ => rfl
      | ⟨1, _⟩ => exact Subsingleton.elim (α := Fin 1) _ _
    rw [hf R]
    exact (shapeCast_a_a1_apply A _ R 0).symm
  rw [hB]
  exact shapeCast_comp A _ _

end Final

end Cert.Sampler

end
-- ==== Proof.lean ====
/-
The proof of `Cert.Claim`: the three frames, the ideal pass's preservation, and the algebraic claim that the ideal
kernel's result is the ideal reference's wherever the precondition holds.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Match
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Sampler.preFacts,
    fun m ρ _ => Cert.Kernel.Gen.frame m ρ,
    fun m ρ _ => Cert.KernelIdeal.Gen.frame m ρ,
    fun m ρ _ => Cert.KernelIdeal.Gen.frame m ρ,
    fun m ρ _ => Cert.Sampler.Ref.frame m ρ,
    fun m ρ _ => Cert.Sampler.Ref.frame m ρ,
    trivial,
    fun m ρ m' ρ' hpre hagree =>
      ⟨fun c => shapeCast Cert.KernelIdeal.S64x8 (Cert.Sampler.Ker.finalCol m c)
          Cert.KernelIdeal.Facts₀.shapeCasts_S512x1_S64x8,
        Cert.Sampler.Ker.run m ρ,
        (θ_run _ _ _).mono (fun _ h c => ⟨(h c).1.trans ((congrArg (fun x => shapeCast Cert.KernelIdeal.S64x8
            (Cert.Pre_clear_winner.fn_argmax (F := Ideal) (Cert.Sampler.rscoreV (F := Ideal) x))
            Cert.ReferenceIdeal.Facts₀.shapeCasts_S512_S64x8) (hagree c)).trans
              (Cert.Sampler.result_same m c (hpre c)).symm), (h c).2⟩)
          (Cert.Sampler.Ref.run m' ρ')⟩⟩

end Cert.Proof

end
